-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v188) = v0 c
          ∧ r.2.mem ((c.tc : Thread Cert.Reference2Ideal.nD Cert.Reference2Ideal.τ).loc Cert.Reference2Ideal.main_v191) = v1 c
          ∧ r.2.mem ((c.tc : Thread Cert.Reference2Ideal.nD Cert.Reference2Ideal.τ).loc Cert.Reference2Ideal.main_v192) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x2048x1024 : Shape := ⟨3, ![8, 2048, 1024]⟩
abbrev S1x8x2048x256 : Shape := ⟨4, ![1, 8, 2048, 256]⟩
abbrev S1x1024 : Shape := ⟨2, ![1, 1024]⟩
abbrev S1x1024x6144 : Shape := ⟨3, ![1, 1024, 6144]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S1024x6144 : Shape := ⟨2, ![1024, 6144]⟩
abbrev S3x1024 : Shape := ⟨2, ![3, 1024]⟩
abbrev S1024x1024 : Shape := ⟨2, ![1024, 1024]⟩
abbrev S4x256x256 : Shape := ⟨3, ![4, 256, 256]⟩
abbrev S1024x4096 : Shape := ⟨2, ![1024, 4096]⟩
abbrev S4096x1024 : Shape := ⟨2, ![4096, 1024]⟩
abbrev S256x1024 : Shape := ⟨2, ![256, 1024]⟩
abbrev S8x2048x256 : Shape := ⟨3, ![8, 2048, 256]⟩
abbrev S8x2x1024 : Shape := ⟨3, ![8, 2, 1024]⟩
abbrev S8x15x1024 : Shape := ⟨3, ![8, 15, 1024]⟩
abbrev S1x512x1024 : Shape := ⟨3, ![1, 512, 1024]⟩
abbrev S1x512x256 : Shape := ⟨3, ![1, 512, 256]⟩
abbrev S1x2x1024 : Shape := ⟨3, ![1, 2, 1024]⟩
abbrev S1x15x1024 : Shape := ⟨3, ![1, 15, 1024]⟩
abbrev S1x520x1024 : Shape := ⟨3, ![1, 520, 1024]⟩
abbrev S1x528x1024 : Shape := ⟨3, ![1, 528, 1024]⟩
abbrev S1x8x1024 : Shape := ⟨3, ![1, 8, 1024]⟩
abbrev S1x16x1024 : Shape := ⟨3, ![1, 16, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 38
  | .vmem => 26
  | .smem => 0
  | _ => 0

abbrev bufTy : (tb : Table) → Fin (tcTables nBuf tb) → BufTy
  | .hbm, ⟨0, _⟩ => ⟨S8x2048x1024, .f32⟩
  | .hbm, ⟨1, _⟩ => ⟨S1x8x2048x256, .f32⟩
  | .hbm, ⟨2, _⟩ => ⟨S1x1024, .f32⟩
  | .hbm, ⟨3, _⟩ => ⟨S1x1024x6144, .f32⟩
  | .hbm, ⟨4, _⟩ => ⟨S1x3x1024, .f32⟩
  | .hbm, ⟨5, _⟩ => ⟨S1x1024x1024, .f32⟩
  | .hbm, ⟨6, _⟩ => ⟨S1x4x256x256, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S1024x6144, .f32⟩
  | .hbm, ⟨17, _⟩ => ⟨S1024x6144, .bf16⟩
  | .hbm, ⟨18, _⟩ => ⟨S3x1024, .f32⟩
  | .hbm, ⟨19, _⟩ => ⟨S1024x1024, .f32⟩
  | .hbm, ⟨20, _⟩ => ⟨S1024x1024, .bf16⟩
  | .hbm, ⟨21, _⟩ => ⟨S4x256x256, .f32⟩
  | .hbm, ⟨22, _⟩ => ⟨S4x256x256, .bf16⟩
  | .hbm, ⟨23, _⟩ => ⟨S1024x1024, .f32⟩
  | .hbm, ⟨24, _⟩ => ⟨S1024x1024, .bf16⟩
  | .hbm, ⟨25, _⟩ => ⟨S1024x4096, .f32⟩
  | .hbm, ⟨26, _⟩ => ⟨S1024x4096, .bf16⟩
  | .hbm, ⟨27, _⟩ => ⟨S4096x1024, .f32⟩
  | .hbm, ⟨28, _⟩ => ⟨S4096x1024, .bf16⟩
  | .hbm, ⟨29, _⟩ => ⟨S1024x1024, .f32⟩
  | .hbm, ⟨30, _⟩ => ⟨S1024x1024, .bf16⟩
  | .hbm, ⟨31, _⟩ => ⟨S256x1024, .f32⟩
  | .hbm, ⟨32, _⟩ => ⟨S256x1024, .bf16⟩
  | .hbm, ⟨33, _⟩ => ⟨S1x1024, .f32⟩
  | .hbm, ⟨34, _⟩ => ⟨S8x2048x256, .f32⟩
  | .hbm, ⟨35, _⟩ => ⟨S8x2048x1024, .f32⟩
  | .hbm, ⟨36, _⟩ => ⟨S8x2x1024, .f32⟩
  | .hbm, ⟨37, _⟩ => ⟨S8x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x1024, .f32⟩
  | .local _ .vmem, ⟨5, _⟩ => ⟨S1024x6144, .bf16⟩
  | .local _ .vmem, ⟨6, _⟩ => ⟨S3x1024, .f32⟩
  | .local _ .vmem, ⟨7, _⟩ => ⟨S1024x1024, .bf16⟩
  | .local _ .vmem, ⟨8, _⟩ => ⟨S4x256x256, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1024x1024, .bf16⟩
  | .local _ .vmem, ⟨16, _⟩ => ⟨S256x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x2x1024, .f32⟩
  | .local _ .vmem, ⟨21, _⟩ => ⟨S1x2x1024, .f32⟩
  | .local _ .vmem, ⟨22, _⟩ => ⟨S1x15x1024, .f32⟩
  | .local _ .vmem, ⟨23, _⟩ => ⟨S1x15x1024, .f32⟩
  | .local _ .vmem, ⟨24, _⟩ => ⟨S1x520x1024, .f32⟩
  | .local _ .vmem, ⟨25, _⟩ => ⟨S1x528x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v194 : BitVec 1 := Scalar.cmpi .eq arg1 c3_i32
  let v195 : BitVec 32 := Scalar.extui v194
  let c0_i32_147 : BitVec 32 := 0#32
  let v196 : BitVec 1 := Scalar.cmpi .ne v195 c0_i32_147
  v196

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x15x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceIdeal.lean ====
abbrev S8x2048x1024 : Shape := ⟨3, ![8, 2048, 1024]⟩
abbrev S1x8x2048x256 : Shape := ⟨4, ![1, 8, 2048, 256]⟩
abbrev S1x1024 : Shape := ⟨2, ![1, 1024]⟩
abbrev S1x1024x6144 : Shape := ⟨3, ![1, 1024, 6144]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S_ : Shape := ⟨0, ![]⟩
abbrev S1x8x2x1024 : Shape := ⟨4, ![1, 8, 2, 1024]⟩
abbrev S1x8x15x1024 : Shape := ⟨4, ![1, 8, 15, 1024]⟩
abbrev S8x2048 : Shape := ⟨2, ![8, 2048]⟩
abbrev S8x2048x1 : Shape := ⟨3, ![8, 2048, 1]⟩
abbrev S1x1x1024 : Shape := ⟨3, ![1, 1, 1024]⟩
abbrev S1024x6144 : Shape := ⟨2, ![1024, 6144]⟩
abbrev S8x2048x6144 : Shape := ⟨3, ![8, 2048, 6144]⟩
abbrev S8x2x1024 : Shape := ⟨3, ![8, 2, 1024]⟩
abbrev S3x1024 : Shape := ⟨2, ![3, 1024]⟩
abbrev S8x2050x1024 : Shape := ⟨3, ![8, 2050, 1024]⟩
abbrev S1024x1024 : Shape := ⟨2, ![1024, 1024]⟩
abbrev S8x15x1024 : Shape := ⟨3, ![8, 15, 1024]⟩
abbrev S4x256x256 : Shape := ⟨3, ![4, 256, 256]⟩
abbrev S8x2063x1024 : Shape := ⟨3, ![8, 2063, 1024]⟩
abbrev S2048 : Shape := ⟨1, ![2048]⟩
abbrev S8x2049x256 : Shape := ⟨3, ![8, 2049, 256]⟩
abbrev S8x2048x256 : Shape := ⟨3, ![8, 2048, 256]⟩
abbrev S1x2048x1 : Shape := ⟨3, ![1, 2048, 1]⟩
abbrev S8x2051x256 : Shape := ⟨3, ![8, 2051, 256]⟩
abbrev S8x2055x256 : Shape := ⟨3, ![8, 2055, 256]⟩
abbrev S8x2063x256 : Shape := ⟨3, ![8, 2063, 256]⟩
abbrev S8x2048x4x256 : Shape := ⟨4, ![8, 2048, 4, 256]⟩
abbrev S4x256x8x2048 : Shape := ⟨4, ![4, 256, 8, 2048]⟩
abbrev S1024x4096 : Shape := ⟨2, ![1024, 4096]⟩
abbrev S8x2048x4096 : Shape := ⟨3, ![8, 2048, 4096]⟩
abbrev S4096x1024 : Shape := ⟨2, ![4096, 1024]⟩
abbrev S256x1024 : Shape := ⟨2, ![256, 1024]⟩

abbrev nBuf : Space → Nat
  | .hbm => 247
  | .vmem => 0
  | .smem => 0
  | _ => 0

abbrev hbmTy0_0 (i : Nat) : BufTy := match i % 128 with
  | 0 => ⟨S8x2048x1024, .f32⟩
  | 1 => ⟨S1x8x2048x256, .f32⟩
  | 2 => ⟨S1x1024, .f32⟩
  | 3 => ⟨S1x1024x6144, .f32⟩
  | 4 => ⟨S1x3x1024, .f32⟩
  | 5 => ⟨S1x1024x1024, .f32⟩
  | 6 => ⟨S1x4x256x256, .f32⟩
  | 7 => ⟨S1x1024, .f32⟩
  | 8 => ⟨S1x1024x1024, .f32⟩
  | 9 => ⟨S1x1024, .f32⟩
  | 10 => ⟨S1x1024x4096, .f32⟩
  | 11 => ⟨S1x4096x1024, .f32⟩
  | 12 => ⟨S1x1024, .f32⟩
  | 13 => ⟨S1x1024x1024, .f32⟩
  | 14 => ⟨S1x256x1024, .f32⟩
  | 15 => ⟨S1024, .f32⟩
  | 16 => ⟨S_, .f32⟩
  | 17 => ⟨S1x8x2x1024, .f32⟩
  | 18 => ⟨S_, .f32⟩
  | 19 => ⟨S1x8x15x1024, .f32⟩
  | 20 => ⟨S1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S1024x6144, .f32⟩
  | 38 => ⟨S8x2048x6144, .f32⟩
  | 39 => ⟨S8x2048x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S_, .f32⟩
  | 47 => ⟨S8x2048x1024, .f32⟩
  | 48 => ⟨S8x2048x1024, .f32⟩
  | 49 => ⟨S_, .f32⟩
  | 50 => ⟨S8x2048x1024, .f32⟩
  | 51 => ⟨S8x2048x1024, .f32⟩
  | 52 => ⟨S8x2048x1024, .f32⟩
  | 53 => ⟨S8x2048x1024, .f32⟩
  | 54 => ⟨S8x2048x1024, .f32⟩
  | 55 => ⟨S_, .f32⟩
  | 56 => ⟨S8x2048x1024, .f32⟩
  | 57 => ⟨S8x2048x1024, .f32⟩
  | 58 => ⟨S_, .f32⟩
  | 59 => ⟨S8x2048x1024, .f32⟩
  | 60 => ⟨S8x2048x1024, .f32⟩
  | 61 => ⟨S8x2x1024, .f32⟩
  | 62 => ⟨S3x1024, .f32⟩
  | 63 => ⟨S8x2048x1024, .f32⟩
  | 64 => ⟨S8x2050x1024, .f32⟩
  | 65 => ⟨S8x2048x1024, .f32⟩
  | 66 => ⟨S1x1024, .f32⟩
  | 67 => ⟨S1024, .f32⟩
  | 68 => ⟨S1x1x1024, .f32⟩
  | 69 => ⟨S8x2048x1024, .f32⟩
  | 70 => ⟨S8x2048x1024, .f32⟩
  | 71 => ⟨S_, .f32⟩
  | 72 => ⟨S8x2048x1024, .f32⟩
  | 73 => ⟨S8x2048x1024, .f32⟩
  | 74 => ⟨S8x2048x1024, .f32⟩
  | 75 => ⟨S1x1024, .f32⟩
  | 76 => ⟨S1024, .f32⟩
  | 77 => ⟨S1x1x1024, .f32⟩
  | 78 => ⟨S8x2048x1024, .f32⟩
  | 79 => ⟨S8x2048x1024, .f32⟩
  | 80 => ⟨S8x2048x1024, .f32⟩
  | 81 => ⟨S8x2048x1024, .f32⟩
  | 82 => ⟨S1x1024, .f32⟩
  | 83 => ⟨S1024, .f32⟩
  | 84 => ⟨S1x1x1024, .f32⟩
  | 85 => ⟨S8x2048x1024, .f32⟩
  | 86 => ⟨S8x2048x1024, .f32⟩
  | 87 => ⟨S8x2048x1024, .f32⟩
  | 88 => ⟨S8x2048x1024, .f32⟩
  | 89 => ⟨S8x2x1024, .f32⟩
  | 90 => ⟨S1024x1024, .f32⟩
  | 91 => ⟨S8x2048x1024, .f32⟩
  | 92 => ⟨S8x15x1024, .f32⟩
  | 93 => ⟨S4x256x256, .f32⟩
  | 94 => ⟨S1024, .f32⟩
  | 95 => ⟨S8x2063x1024, .f32⟩
  | 96 => ⟨S2048, .i32⟩
  | 97 => ⟨S_, .i32⟩
  | 98 => ⟨S2048, .i32⟩
  | 99 => ⟨S2048, .i32⟩
  | 100 => ⟨S2048, .f32⟩
  | 101 => ⟨S8x2049x256, .f32⟩
  | 102 => ⟨S_, .f32⟩
  | 103 => ⟨S_, .f32⟩
  | 104 => ⟨S8x2048x256, .f32⟩
  | 105 => ⟨S_, .f32⟩
  | 106 => ⟨S2048, .f32⟩
  | 107 => ⟨S2048, .f32⟩
  | 108 => ⟨S_, .f32⟩
  | 109 => ⟨S2048, .f32⟩
  | 110 => ⟨S2048, .f32⟩
  | 111 => ⟨S1x2048x1, .f32⟩
  | 112 => ⟨S8x2048x256, .f32⟩
  | 113 => ⟨S8x2048x256, .f32⟩
  | 114 => ⟨S8x2051x256, .f32⟩
  | 115 => ⟨S_, .f32⟩
  | 116 => ⟨S_, .f32⟩
  | 117 => ⟨S8x2048x256, .f32⟩
  | 118 => ⟨S_, .f32⟩
  | 119 => ⟨S2048, .f32⟩
  | 120 => ⟨S2048, .f32⟩
  | 121 => ⟨S_, .f32⟩
  | 122 => ⟨S2048, .f32⟩
  | 123 => ⟨S2048, .f32⟩
  | 124 => ⟨S1x2048x1, .f32⟩
  | 125 => ⟨S8x2048x256, .f32⟩
  | 126 => ⟨S8x2048x256, .f32⟩
  | 127 => ⟨S8x2055x256, .f32⟩
  | _ => ⟨S8x2048x1024, .f32⟩

abbrev hbmTy0_1 (i : Nat) : BufTy := match i % 128 with
  | 0 => ⟨S_, .f32⟩
  | 1 => ⟨S_, .f32⟩
  | 2 => ⟨S8x2048x256, .f32⟩
  | 3 => ⟨S_, .f32⟩
  | 4 => ⟨S2048, .f32⟩
  | 5 => ⟨S2048, .f32⟩
  | 6 => ⟨S_, .f32⟩
  | 7 => ⟨S2048, .f32⟩
  | 8 => ⟨S2048, .f32⟩
  | 9 => ⟨S1x2048x1, .f32⟩
  | 10 => ⟨S8x2048x256, .f32⟩
  | 11 => ⟨S8x2048x256, .f32⟩
  | 12 => ⟨S8x2063x256, .f32⟩
  | 13 => ⟨S_, .f32⟩
  | 14 => ⟨S_, .f32⟩
  | 15 => ⟨S8x2048x256, .f32⟩
  | 16 => ⟨S_, .f32⟩
  | 17 => ⟨S2048, .f32⟩
  | 18 => ⟨S2048, .f32⟩
  | 19 => ⟨S_, .f32⟩
  | 20 => ⟨S2048, .f32⟩
  | 21 => ⟨S2048, .f32⟩
  | 22 => ⟨S1x2048x1, .f32⟩
  | 23 => ⟨S8x2048x256, .f32⟩
  | 24 => ⟨S8x2048x256, .f32⟩
  | 25 => ⟨S8x2048x1024, .f32⟩
  | 26 => ⟨S8x2048x1024, .f32⟩
  | 27 => ⟨S8x2048x4x256, .f32⟩
  | 28 => ⟨S4x256x8x2048, .f32⟩
  | 29 => ⟨S8x2048x4x256, .f32⟩
  | 30 => ⟨S8x2048x1024, .f32⟩
  | 31 => ⟨S1x1x1024, .f32⟩
  | 32 => ⟨S8x2048x1024, .f32⟩
  | 33 => ⟨S8x2048x1024, .f32⟩
  | 34 => ⟨S8x15x1024, .f32⟩
  | 35 => ⟨S8x2048x1024, .f32⟩
  | 36 => ⟨S8x2048x1024, .f32⟩
  | 37 => ⟨S8x2048x1024, .f32⟩
  | 38 => ⟨S1024x1024, .f32⟩
  | 39 => ⟨S8x2048x1024, .f32⟩
  | 40 => ⟨S8x2048x1024, .f32⟩
  | 41 => ⟨S1024, .f32⟩
  | 42 => ⟨S8x2048x1024, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .f32⟩
  | 50 => ⟨S8x2048x1, .f32⟩
  | 51 => ⟨S8x2048x1, .f32⟩
  | 52 => ⟨S8x2048x1, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S1024x4096, .f32⟩
  | 59 => ⟨S8x2048x4096, .f32⟩
  | 60 => ⟨S_, .f32⟩
  | 61 => ⟨S8x2048x4096, .f32⟩
  | 62 => ⟨S8x2048x4096, .f32⟩
  | 63 => ⟨S8x2048x4096, .f32⟩
  | 64 => ⟨S4096x1024, .f32⟩
  | 65 => ⟨S8x2048x1024, .f32⟩
  | 66 => ⟨S8x2048x1024, .f32⟩
  | 67 => ⟨S1024, .f32⟩
  | 68 => ⟨S8x2048x1024, .f32⟩
  | 69 => ⟨S_, .f32⟩
  | 70 => ⟨S8x2048, .f32⟩
  | 71 => ⟨S8x2048x1, .f32⟩
  | 72 => ⟨S_, .f32⟩
  | 73 => ⟨S8x2048x1, .f32⟩
  | 74 => ⟨S8x2048x1, .f32⟩
  | 75 => ⟨S_, .f32⟩
  | 76 => ⟨S8x2048x1, .f32⟩
  | 77 => ⟨S8x2048x1, .f32⟩
  | 78 => ⟨S8x2048x1, .f32⟩
  | 79 => ⟨S8x2048x1024, .f32⟩
  | 80 => ⟨S8x2048x1024, .f32⟩
  | 81 => ⟨S1x1x1024, .f32⟩
  | 82 => ⟨S8x2048x1024, .f32⟩
  | 83 => ⟨S8x2048x1024, .f32⟩
  | 84 => ⟨S1024x1024, .f32⟩
  | 85 => ⟨S8x2048x1024, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S8x2048x256, .f32⟩
  | 95 => ⟨S256x1024, .f32⟩
  | 96 => ⟨S8x2048x1024, .f32⟩
  | 97 => ⟨S8x2048x1024, .f32⟩
  | 98 => ⟨S8x2048x1024, .f32⟩
  | 99 => ⟨S8x2048x1024, .f32⟩
  | 100 => ⟨S_, .f32⟩
  | 101 => ⟨S8x2048, .f32⟩
  | 102 => ⟨S8x2048x1, .f32⟩
  | 103 => ⟨S_, .f32⟩
  | 104 => ⟨S8x2048x1, .f32⟩
  | 105 => ⟨S8x2048x1, .f32⟩
  | 106 => ⟨S_, .f32⟩
  | 107 => ⟨S8x2048x1, .f32⟩
  | 108 => ⟨S8x2048x1, .f32⟩
  | 109 => ⟨S8x2048x1, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S1x8x2x1024, .f32⟩
  | 116 => ⟨S1x8x15x1024, .f32⟩
  | 117 => ⟨S8x2x1024, .f32⟩
  | 118 => ⟨S8x15x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_cst_10 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_12 : Ref sig .tc := ⟨.hbm, 115, rfl⟩
abbrev main_v85 : Ref sig .tc := ⟨.hbm, 116, rfl⟩
abbrev main_v86 : Ref sig .tc := ⟨.hbm, 117, rfl⟩
abbrev main_cst_13 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_15 : Ref sig .tc := ⟨.hbm, 128, rfl⟩
abbrev main_v95 : Ref sig .tc := ⟨.hbm, 129, rfl⟩
abbrev main_v96 : Ref sig .tc := ⟨.hbm, 130, rfl⟩
abbrev main_cst_16 : Ref sig .tc := ⟨.hbm, 131, rfl⟩
abbrev main_v97 : Ref sig .tc := ⟨.hbm, 132, rfl⟩
abbrev main_v98 : Ref sig .tc := ⟨.hbm, 133, rfl⟩
abbrev main_cst_17 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_18 : Ref sig .tc := ⟨.hbm, 141, rfl⟩
abbrev main_v105 : Ref sig .tc := ⟨.hbm, 142, rfl⟩
abbrev main_v106 : Ref sig .tc := ⟨.hbm, 143, rfl⟩
abbrev main_cst_19 : Ref sig .tc := ⟨.hbm, 144, rfl⟩
abbrev main_v107 : Ref sig .tc := ⟨.hbm, 145, rfl⟩
abbrev main_v108 : Ref sig .tc := ⟨.hbm, 146, rfl⟩
abbrev main_cst_20 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_cst_21 : Ref sig .tc := ⟨.hbm, 171, rfl⟩
abbrev main_v132 : Ref sig .tc := ⟨.hbm, 172, rfl⟩
abbrev main_v133 : Ref sig .tc := ⟨.hbm, 173, rfl⟩
abbrev main_cst_22 : Ref sig .tc := ⟨.hbm, 174, rfl⟩
abbrev main_v134 : Ref sig .tc := ⟨.hbm, 175, rfl⟩
abbrev main_v135 : Ref sig .tc := ⟨.hbm, 176, rfl⟩
abbrev main_cst_23 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_call0_cst : Ref sig .tc := ⟨.hbm, 188, rfl⟩
abbrev main_call0_v0 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_24 : Ref sig .tc := ⟨.hbm, 197, rfl⟩
abbrev main_v153 : Ref sig .tc := ⟨.hbm, 198, rfl⟩
abbrev main_v154 : Ref sig .tc := ⟨.hbm, 199, rfl⟩
abbrev main_cst_25 : Ref sig .tc := ⟨.hbm, 200, rfl⟩
abbrev main_v155 : Ref sig .tc := ⟨.hbm, 201, rfl⟩
abbrev main_v156 : Ref sig .tc := ⟨.hbm, 202, rfl⟩
abbrev main_cst_26 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_cst_27 : Ref sig .tc := ⟨.hbm, 216, rfl⟩
abbrev main_v169 : Ref sig .tc := ⟨.hbm, 217, rfl⟩
abbrev main_v170 : Ref sig .tc := ⟨.hbm, 218, rfl⟩
abbrev main_cst_28 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_cst_29 : Ref sig .tc := ⟨.hbm, 228, rfl⟩
abbrev main_v179 : Ref sig .tc := ⟨.hbm, 229, rfl⟩
abbrev main_v180 : Ref sig .tc := ⟨.hbm, 230, rfl⟩
abbrev main_cst_30 : Ref sig .tc := ⟨.hbm, 231, rfl⟩
abbrev main_v181 : Ref sig .tc := ⟨.hbm, 232, rfl⟩
abbrev main_v182 : Ref sig .tc := ⟨.hbm, 233, rfl⟩
abbrev main_cst_31 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩

abbrev nD : Nat := 1
abbrev τ : Topo := Topo.v7x

variable {F : FTy → Type} [FloatOps F]
-- ==== Kernel2.lean ====
abbrev S128x8x1024 : Shape := ⟨3, ![128, 8, 1024]⟩
abbrev S1x128x8x256 : Shape := ⟨4, ![1, 128, 8, 256]⟩
abbrev S1x128x2x1024 : Shape := ⟨4, ![1, 128, 2, 1024]⟩
abbrev S1x128x15x1024 : Shape := ⟨4, ![1, 128, 15, 1024]⟩
abbrev S1x1024 : Shape := ⟨2, ![1, 1024]⟩
abbrev S1x1024x6144 : Shape := ⟨3, ![1, 1024, 6144]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S1024x6144 : Shape := ⟨2, ![1024, 6144]⟩
abbrev S3x1024 : Shape := ⟨2, ![3, 1024]⟩
abbrev S1024x1024 : Shape := ⟨2, ![1024, 1024]⟩
abbrev S4x256x256 : Shape := ⟨3, ![4, 256, 256]⟩
abbrev S1024x4096 : Shape := ⟨2, ![1024, 4096]⟩
abbrev S4096x1024 : Shape := ⟨2, ![4096, 1024]⟩
abbrev S256x1024 : Shape := ⟨2, ![256, 1024]⟩
abbrev S128x8x256 : Shape := ⟨3, ![128, 8, 256]⟩
abbrev S128x2x1024 : Shape := ⟨3, ![128, 2, 1024]⟩
abbrev S128x15x1024 : Shape := ⟨3, ![128, 15, 1024]⟩
abbrev S32x8x1024 : Shape := ⟨3, ![32, 8, 1024]⟩
abbrev S32x8x256 : Shape := ⟨3, ![32, 8, 256]⟩
abbrev S32x2x1024 : Shape := ⟨3, ![32, 2, 1024]⟩
abbrev S32x15x1024 : Shape := ⟨3, ![32, 15, 1024]⟩
abbrev S32x16x1024 : Shape := ⟨3, ![32, 16, 1024]⟩
abbrev S32x24x1024 : Shape := ⟨3, ![32, 24, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 42
  | .vmem => 30
  | .smem => 0
  | _ => 0

abbrev bufTy : (tb : Table) → Fin (tcTables nBuf tb) → BufTy
  | .hbm, ⟨0, _⟩ => ⟨S128x8x1024, .f32⟩
  | .hbm, ⟨1, _⟩ => ⟨S1x128x8x256, .f32⟩
  | .hbm, ⟨2, _⟩ => ⟨S1x128x2x1024, .f32⟩
  | .hbm, ⟨3, _⟩ => ⟨S1x128x15x1024, .f32⟩
  | .hbm, ⟨4, _⟩ => ⟨S1x1024, .f32⟩
  | .hbm, ⟨5, _⟩ => ⟨S1x1024x6144, .f32⟩
  | .hbm, ⟨6, _⟩ => ⟨S1x3x1024, .f32⟩
  | .hbm, ⟨7, _⟩ => ⟨S1x1024x1024, .f32⟩
  | .hbm, ⟨8, _⟩ => ⟨S1x4x256x256, .f32⟩
  | .hbm, ⟨9, _⟩ => ⟨S1x1024, .f32⟩
  | .hbm, ⟨10, _⟩ => ⟨S1x1024x1024, .f32⟩
  | .hbm, ⟨11, _⟩ => ⟨S1x1024, .f32⟩
  | .hbm, ⟨12, _⟩ => ⟨S1x1024x4096, .f32⟩
  | .hbm, ⟨13, _⟩ => ⟨S1x4096x1024, .f32⟩
  | .hbm, ⟨14, _⟩ => ⟨S1x1024, .f32⟩
  | .hbm, ⟨15, _⟩ => ⟨S1x1024x1024, .f32⟩
  | .hbm, ⟨16, _⟩ => ⟨S1x256x1024, .f32⟩
  | .hbm, ⟨17, _⟩ => ⟨S1024, .f32⟩
  | .hbm, ⟨18, _⟩ => ⟨S1024x6144, .f32⟩
  | .hbm, ⟨19, _⟩ => ⟨S1024x6144, .bf16⟩
  | .hbm, ⟨20, _⟩ => ⟨S3x1024, .f32⟩
  | .hbm, ⟨21, _⟩ => ⟨S1024x1024, .f32⟩
  | .hbm, ⟨22, _⟩ => ⟨S1024x1024, .bf16⟩
  | .hbm, ⟨23, _⟩ => ⟨S4x256x256, .f32⟩
  | .hbm, ⟨24, _⟩ => ⟨S4x256x256, .bf16⟩
  | .hbm, ⟨25, _⟩ => ⟨S1024x1024, .f32⟩
  | .hbm, ⟨26, _⟩ => ⟨S1024x1024, .bf16⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S4096x1024, .bf16⟩
  | .hbm, ⟨31, _⟩ => ⟨S1024x1024, .f32⟩
  | .hbm, ⟨32, _⟩ => ⟨S1024x1024, .bf16⟩
  | .hbm, ⟨33, _⟩ => ⟨S256x1024, .f32⟩
  | .hbm, ⟨34, _⟩ => ⟨S256x1024, .bf16⟩
  | .hbm, ⟨35, _⟩ => ⟨S1x1024, .f32⟩
  | .hbm, ⟨36, _⟩ => ⟨S128x8x256, .f32⟩
  | .hbm, ⟨37, _⟩ => ⟨S128x2x1024, .f32⟩
  | .hbm, ⟨38, _⟩ => ⟨S128x15x1024, .f32⟩
  | .hbm, ⟨39, _⟩ => ⟨S128x8x1024, .f32⟩
  | .hbm, ⟨40, _⟩ => ⟨S128x2x1024, .f32⟩
  | .hbm, ⟨41, _⟩ => ⟨S128x15x1024, .f32⟩
  | .local _ .vmem, ⟨0, _⟩ => ⟨S32x8x1024, .f32⟩
  | .local _ .vmem, ⟨1, _⟩ => ⟨S32x8x1024, .f32⟩
  | .local _ .vmem, ⟨2, _⟩ => ⟨S32x8x256, .f32⟩
  | .local _ .vmem, ⟨3, _⟩ => ⟨S32x8x256, .f32⟩
  | .local _ .vmem, ⟨4, _⟩ => ⟨S32x2x1024, .f32⟩
  | .local _ .vmem, ⟨5, _⟩ => ⟨S32x2x1024, .f32⟩
  | .local _ .vmem, ⟨6, _⟩ => ⟨S32x15x1024, .f32⟩
  | .local _ .vmem, ⟨7, _⟩ => ⟨S32x15x1024, .f32⟩
  | .local _ .vmem, ⟨8, _⟩ => ⟨S1x1024, .f32⟩
  | .local _ .vmem, ⟨9, _⟩ => ⟨S1024x6144, .bf16⟩
  | .local _ .vmem, ⟨10, _⟩ => ⟨S3x1024, .f32⟩
  | .local _ .vmem, ⟨11, _⟩ => ⟨S1024x1024, .bf16⟩
  | .local _ .vmem, ⟨12, _⟩ => ⟨S4x256x256, .bf16⟩
  | .local _ .vmem, ⟨13, _⟩ => ⟨S1x1024, .f32⟩
  | .local _ .vmem, ⟨14, _⟩ => ⟨S1024x1024, .bf16⟩
  | .local _ .vmem, ⟨15, _⟩ => ⟨S1x1024, .f32⟩
  | .local _ .vmem, ⟨16, _⟩ => ⟨S1024x4096, .bf16⟩
  | .local _ .vmem, ⟨17, _⟩ => ⟨S4096x1024, .bf16⟩
  | .local _ .vmem, ⟨18, _⟩ => ⟨S1x1024, .f32⟩
  | .local _ .vmem, ⟨19, _⟩ => ⟨S1024x1024, .bf16⟩
  | .local _ .vmem, ⟨20, _⟩ => ⟨S256x1024, .bf16⟩
  | .local _ .vmem, ⟨21, _⟩ => ⟨S1x1024, .f32⟩
  | .local _ .vmem, ⟨22, _⟩ => ⟨S32x8x1024, .f32⟩
  | .local _ .vmem, ⟨23, _⟩ => ⟨S32x8x1024, .f32⟩
  | .local _ .vmem, ⟨24, _⟩ => ⟨S32x2x1024, .f32⟩
  | .local _ .vmem, ⟨25, _⟩ => ⟨S32x2x1024, .f32⟩
  | .local _ .vmem, ⟨26, _⟩ => ⟨S32x15x1024, .f32⟩
  | .local _ .vmem, ⟨27, _⟩ => ⟨S32x15x1024, .f32⟩
  | .local _ .vmem, ⟨28, _⟩ => ⟨S32x16x1024, .f32⟩
  | .local _ .vmem, ⟨29, _⟩ => ⟨S32x24x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev main_v21_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x15x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S32x8x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S32x2x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x15x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S128x8x1024 : Shape := ⟨3, ![128, 8, 1024]⟩
abbrev S1x128x8x256 : Shape := ⟨4, ![1, 128, 8, 256]⟩
abbrev S1x128x2x1024 : Shape := ⟨4, ![1, 128, 2, 1024]⟩
abbrev S1x128x15x1024 : Shape := ⟨4, ![1, 128, 15, 1024]⟩
abbrev S1x1024 : Shape := ⟨2, ![1, 1024]⟩
abbrev S1x1024x6144 : Shape := ⟨3, ![1, 1024, 6144]⟩
abbrev S1x3x1024 : Shape := ⟨3, ![1, 3, 1024]⟩
abbrev S1x1024x1024 : Shape := ⟨3, ![1, 1024, 1024]⟩
abbrev S1x4x256x256 : Shape := ⟨4, ![1, 4, 256, 256]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S1024x6144 : Shape := ⟨2, ![1024, 6144]⟩
abbrev S128x8x6144 : Shape := ⟨3, ![128, 8, 6144]⟩
abbrev S128x2x1024 : Shape := ⟨3, ![128, 2, 1024]⟩
abbrev S3x1024 : Shape := ⟨2, ![3, 1024]⟩
abbrev S128x10x1024 : Shape := ⟨3, ![128, 10, 1024]⟩
abbrev S1024x1024 : Shape := ⟨2, ![1024, 1024]⟩
abbrev S128x15x1024 : Shape := ⟨3, ![128, 15, 1024]⟩
abbrev S4x256x256 : Shape := ⟨3, ![4, 256, 256]⟩
abbrev S128x23x1024 : Shape := ⟨3, ![128, 23, 1024]⟩
abbrev S8 : Shape := ⟨1, ![8]⟩
abbrev S128x9x256 : Shape := ⟨3, ![128, 9, 256]⟩
abbrev S128x8x256 : Shape := ⟨3, ![128, 8, 256]⟩
abbrev S1x8x1 : Shape := ⟨3, ![1, 8, 1]⟩
abbrev S128x11x256 : Shape := ⟨3, ![128, 11, 256]⟩
abbrev S128x15x256 : Shape := ⟨3, ![128, 15, 256]⟩
abbrev S128x23x256 : Shape := ⟨3, ![128, 23, 256]⟩
abbrev S128x8x4x256 : Shape := ⟨4, ![128, 8, 4, 256]⟩
abbrev S4x256x128x8 : Shape := ⟨4, ![4, 256, 128, 8]⟩
abbrev S1024x4096 : Shape := ⟨2, ![1024, 4096]⟩
abbrev S128x8x4096 : Shape := ⟨3, ![128, 8, 4096]⟩
abbrev S4096x1024 : Shape := ⟨2, ![4096, 1024]⟩
abbrev S256x1024 : Shape := ⟨2, ![256, 1024]⟩

abbrev nBuf : Space → Nat
  | .hbm => 245
  | .vmem => 0
  | .smem => 0
  | _ => 0

abbrev hbmTy0_0 (i : Nat) : BufTy := match i % 128 with
  | 0 => ⟨S128x8x1024, .f32⟩
  | 1 => ⟨S1x128x8x256, .f32⟩
  | 2 => ⟨S1x128x2x1024, .f32⟩
  | 3 => ⟨S1x128x15x1024, .f32⟩
  | 4 => ⟨S1x1024, .f32⟩
  | 5 => ⟨S1x1024x6144, .f32⟩
  | 6 => ⟨S1x3x1024, .f32⟩
  | 7 => ⟨S1x1024x1024, .f32⟩
  | 8 => ⟨S1x4x256x256, .f32⟩
  | 9 => ⟨S1x1024, .f32⟩
  | 10 => ⟨S1x1024x1024, .f32⟩
  | 11 => ⟨S1x1024, .f32⟩
  | 12 => ⟨S1x1024x4096, .f32⟩
  | 13 => ⟨S1x4096x1024, .f32⟩
  | 14 => ⟨S1x1024, .f32⟩
  | 15 => ⟨S1x1024x1024, .f32⟩
  | 16 => ⟨S1x256x1024, .f32⟩
  | 17 => ⟨S1024, .f32⟩
  | 18 => ⟨S1024, .f32⟩
  | 19 => ⟨S128x8x1024, .f32⟩
  | 20 => ⟨S_, .f32⟩
  | 21 => ⟨S128x8, .f32⟩
  | 22 => ⟨S128x8x1, .f32⟩
  | 23 => ⟨S_, .f32⟩
  | 24 => ⟨S128x8x1, .f32⟩
  | 25 => ⟨S128x8x1, .f32⟩
  | 26 => ⟨S_, .f32⟩
  | 27 => ⟨S128x8x1, .f32⟩
  | 28 => ⟨S128x8x1, .f32⟩
  | 29 => ⟨S128x8x1, .f32⟩
  | 30 => ⟨S128x8x1024, .f32⟩
  | 31 => ⟨S128x8x1024, .f32⟩
  | 32 => ⟨S1x1x1024, .f32⟩
  | 33 => ⟨S128x8x1024, .f32⟩
  | 34 => ⟨S128x8x1024, .f32⟩
  | 35 => ⟨S1024x6144, .f32⟩
  | 36 => ⟨S128x8x6144, .f32⟩
  | 37 => ⟨S128x8x1024, .f32⟩
  | 38 => ⟨S128x8x1024, .f32⟩
  | 39 => ⟨S128x8x1024, .f32⟩
  | 40 => ⟨S128x8x1024, .f32⟩
  | 41 => ⟨S128x8x1024, .f32⟩
  | 42 => ⟨S128x8x1024, .f32⟩
  | 43 => ⟨S128x8x1024, .f32⟩
  | 44 => ⟨S_, .f32⟩
  | 45 => ⟨S128x8x1024, .f32⟩
  | 46 => ⟨S128x8x1024, .f32⟩
  | 47 => ⟨S_, .f32⟩
  | 48 => ⟨S128x8x1024, .f32⟩
  | 49 => ⟨S128x8x1024, .f32⟩
  | 50 => ⟨S128x8x1024, .f32⟩
  | 51 => ⟨S128x8x1024, .f32⟩
  | 52 => ⟨S128x8x1024, .f32⟩
  | 53 => ⟨S_, .f32⟩
  | 54 => ⟨S128x8x1024, .f32⟩
  | 55 => ⟨S128x8x1024, .f32⟩
  | 56 => ⟨S_, .f32⟩
  | 57 => ⟨S128x8x1024, .f32⟩
  | 58 => ⟨S128x8x1024, .f32⟩
  | 59 => ⟨S128x2x1024, .f32⟩
  | 60 => ⟨S3x1024, .f32⟩
  | 61 => ⟨S128x8x1024, .f32⟩
  | 62 => ⟨S128x10x1024, .f32⟩
  | 63 => ⟨S128x8x1024, .f32⟩
  | 64 => ⟨S1x1024, .f32⟩
  | 65 => ⟨S1024, .f32⟩
  | 66 => ⟨S1x1x1024, .f32⟩
  | 67 => ⟨S128x8x1024, .f32⟩
  | 68 => ⟨S128x8x1024, .f32⟩
  | 69 => ⟨S_, .f32⟩
  | 70 => ⟨S128x8x1024, .f32⟩
  | 71 => ⟨S128x8x1024, .f32⟩
  | 72 => ⟨S128x8x1024, .f32⟩
  | 73 => ⟨S1x1024, .f32⟩
  | 74 => ⟨S1024, .f32⟩
  | 75 => ⟨S1x1x1024, .f32⟩
  | 76 => ⟨S128x8x1024, .f32⟩
  | 77 => ⟨S128x8x1024, .f32⟩
  | 78 => ⟨S128x8x1024, .f32⟩
  | 79 => ⟨S128x8x1024, .f32⟩
  | 80 => ⟨S1x1024, .f32⟩
  | 81 => ⟨S1024, .f32⟩
  | 82 => ⟨S1x1x1024, .f32⟩
  | 83 => ⟨S128x8x1024, .f32⟩
  | 84 => ⟨S128x8x1024, .f32⟩
  | 85 => ⟨S128x8x1024, .f32⟩
  | 86 => ⟨S128x8x1024, .f32⟩
  | 87 => ⟨S128x2x1024, .f32⟩
  | 88 => ⟨S1024x1024, .f32⟩
  | 89 => ⟨S128x8x1024, .f32⟩
  | 90 => ⟨S128x15x1024, .f32⟩
  | 91 => ⟨S4x256x256, .f32⟩
  | 92 => ⟨S1024, .f32⟩
  | 93 => ⟨S128x23x1024, .f32⟩
  | 94 => ⟨S8, .i32⟩
  | 95 => ⟨S_, .i32⟩
  | 96 => ⟨S8, .i32⟩
  | 97 => ⟨S8, .i32⟩
  | 98 => ⟨S8, .f32⟩
  | 99 => ⟨S128x9x256, .f32⟩
  | 100 => ⟨S_, .f32⟩
  | 101 => ⟨S_, .f32⟩
  | 102 => ⟨S128x8x256, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S1x8x1, .f32⟩
  | 110 => ⟨S128x8x256, .f32⟩
  | 111 => ⟨S128x8x256, .f32⟩
  | 112 => ⟨S128x11x256, .f32⟩
  | 113 => ⟨S_, .f32⟩
  | 114 => ⟨S_, .f32⟩
  | 115 => ⟨S128x8x256, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S1x8x1, .f32⟩
  | 123 => ⟨S128x8x256, .f32⟩
  | 124 => ⟨S128x8x256, .f32⟩
  | 125 => ⟨S128x15x256, .f32⟩
  | 126 => ⟨S_, .f32⟩
  | 127 => ⟨S_, .f32⟩
  | _ => ⟨S128x8x1024, .f32⟩

abbrev hbmTy0_1 (i : Nat) : BufTy := match i % 128 with
  | 0 => ⟨S128x8x256, .f32⟩
  | 1 => ⟨S_, .f32⟩
  | 2 => ⟨S8, .f32⟩
  | 3 => ⟨S8, .f32⟩
  | 4 => ⟨S_, .f32⟩
  | 5 => ⟨S8, .f32⟩
  | 6 => ⟨S8, .f32⟩
  | 7 => ⟨S1x8x1, .f32⟩
  | 8 => ⟨S128x8x256, .f32⟩
  | 9 => ⟨S128x8x256, .f32⟩
  | 10 => ⟨S128x23x256, .f32⟩
  | 11 => ⟨S_, .f32⟩
  | 12 => ⟨S_, .f32⟩
  | 13 => ⟨S128x8x256, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S1x8x1, .f32⟩
  | 21 => ⟨S128x8x256, .f32⟩
  | 22 => ⟨S128x8x256, .f32⟩
  | 23 => ⟨S128x8x1024, .f32⟩
  | 24 => ⟨S128x8x1024, .f32⟩
  | 25 => ⟨S128x8x4x256, .f32⟩
  | 26 => ⟨S4x256x128x8, .f32⟩
  | 27 => ⟨S128x8x4x256, .f32⟩
  | 28 => ⟨S128x8x1024, .f32⟩
  | 29 => ⟨S1x1x1024, .f32⟩
  | 30 => ⟨S128x8x1024, .f32⟩
  | 31 => ⟨S128x8x1024, .f32⟩
  | 32 => ⟨S128x15x1024, .f32⟩
  | 33 => ⟨S128x8x1024, .f32⟩
  | 34 => ⟨S128x8x1024, .f32⟩
  | 35 => ⟨S128x8x1024, .f32⟩
  | 36 => ⟨S1024x1024, .f32⟩
  | 37 => ⟨S128x8x1024, .f32⟩
  | 38 => ⟨S128x8x1024, .f32⟩
  | 39 => ⟨S1024, .f32⟩
  | 40 => ⟨S128x8x1024, .f32⟩
  | 41 => ⟨S_, .f32⟩
  | 42 => ⟨S128x8, .f32⟩
  | 43 => ⟨S128x8x1, .f32⟩
  | 44 => ⟨S_, .f32⟩
  | 45 => ⟨S128x8x1, .f32⟩
  | 46 => ⟨S128x8x1, .f32⟩
  | 47 => ⟨S_, .f32⟩
  | 48 => ⟨S128x8x1, .f32⟩
  | 49 => ⟨S128x8x1, .f32⟩
  | 50 => ⟨S128x8x1, .f32⟩
  | 51 => ⟨S128x8x1024, .f32⟩
  | 52 => ⟨S128x8x1024, .f32⟩
  | 53 => ⟨S1x1x1024, .f32⟩
  | 54 => ⟨S128x8x1024, .f32⟩
  | 55 => ⟨S128x8x1024, .f32⟩
  | 56 => ⟨S1024x4096, .f32⟩
  | 57 => ⟨S128x8x4096, .f32⟩
  | 58 => ⟨S_, .f32⟩
  | 59 => ⟨S128x8x4096, .f32⟩
  | 60 => ⟨S128x8x4096, .f32⟩
  | 61 => ⟨S128x8x4096, .f32⟩
  | 62 => ⟨S4096x1024, .f32⟩
  | 63 => ⟨S128x8x1024, .f32⟩
  | 64 => ⟨S128x8x1024, .f32⟩
  | 65 => ⟨S1024, .f32⟩
  | 66 => ⟨S128x8x1024, .f32⟩
  | 67 => ⟨S_, .f32⟩
  | 68 => ⟨S128x8, .f32⟩
  | 69 => ⟨S128x8x1, .f32⟩
  | 70 => ⟨S_, .f32⟩
  | 71 => ⟨S128x8x1, .f32⟩
  | 72 => ⟨S128x8x1, .f32⟩
  | 73 => ⟨S_, .f32⟩
  | 74 => ⟨S128x8x1, .f32⟩
  | 75 => ⟨S128x8x1, .f32⟩
  | 76 => ⟨S128x8x1, .f32⟩
  | 77 => ⟨S128x8x1024, .f32⟩
  | 78 => ⟨S128x8x1024, .f32⟩
  | 79 => ⟨S1x1x1024, .f32⟩
  | 80 => ⟨S128x8x1024, .f32⟩
  | 81 => ⟨S128x8x1024, .f32⟩
  | 82 => ⟨S1024x1024, .f32⟩
  | 83 => ⟨S128x8x1024, .f32⟩
  | 84 => ⟨S128x8x1024, .f32⟩
  | 85 => ⟨S128x8x1024, .f32⟩
  | 86 => ⟨S_, .f32⟩
  | 87 => ⟨S128x8x1024, .f32⟩
  | 88 => ⟨S128x8x1024, .f32⟩
  | 89 => ⟨S_, .f32⟩
  | 90 => ⟨S128x8x1024, .f32⟩
  | 91 => ⟨S128x8x1024, .f32⟩
  | 92 => ⟨S128x8x256, .f32⟩
  | 93 => ⟨S256x1024, .f32⟩
  | 94 => ⟨S128x8x1024, .f32⟩
  | 95 => ⟨S128x8x1024, .f32⟩
  | 96 => ⟨S128x8x1024, .f32⟩
  | 97 => ⟨S128x8x1024, .f32⟩
  | 98 => ⟨S_, .f32⟩
  | 99 => ⟨S128x8, .f32⟩
  | 100 => ⟨S128x8x1, .f32⟩
  | 101 => ⟨S_, .f32⟩
  | 102 => ⟨S128x8x1, .f32⟩
  | 103 => ⟨S128x8x1, .f32⟩
  | 104 => ⟨S_, .f32⟩
  | 105 => ⟨S128x8x1, .f32⟩
  | 106 => ⟨S128x8x1, .f32⟩
  | 107 => ⟨S128x8x1, .f32⟩
  | 108 => ⟨S128x8x1024, .f32⟩
  | 109 => ⟨S128x8x1024, .f32⟩
  | 110 => ⟨S1x1x1024, .f32⟩
  | 111 => ⟨S128x8x1024, .f32⟩
  | 112 => ⟨S128x8x1024, .f32⟩
  | 113 => ⟨S1x128x2x1024, .f32⟩
  | 114 => ⟨S1x128x15x1024, .f32⟩
  | 115 => ⟨S128x2x1024, .f32⟩
  | 116 => ⟨S128x15x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_cst_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_7 : Ref sig .tc := ⟨.hbm, 100, rfl⟩
abbrev main_v73 : Ref sig .tc := ⟨.hbm, 101, rfl⟩
abbrev main_v74 : Ref sig .tc := ⟨.hbm, 102, rfl⟩
abbrev main_cst_8 : Ref sig .tc := ⟨.hbm, 103, rfl⟩
abbrev main_v75 : Ref sig .tc := ⟨.hbm, 104, rfl⟩
abbrev main_v76 : Ref sig .tc := ⟨.hbm, 105, rfl⟩
abbrev main_cst_9 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_10 : Ref sig .tc := ⟨.hbm, 113, rfl⟩
abbrev main_v83 : Ref sig .tc := ⟨.hbm, 114, rfl⟩
abbrev main_v84 : Ref sig .tc := ⟨.hbm, 115, rfl⟩
abbrev main_cst_11 : Ref sig .tc := ⟨.hbm, 116, rfl⟩
abbrev main_v85 : Ref sig .tc := ⟨.hbm, 117, rfl⟩
abbrev main_v86 : Ref sig .tc := ⟨.hbm, 118, rfl⟩
abbrev main_cst_12 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_13 : Ref sig .tc := ⟨.hbm, 126, rfl⟩
abbrev main_v93 : Ref sig .tc := ⟨.hbm, 127, rfl⟩
abbrev main_v94 : Ref sig .tc := ⟨.hbm, 128, rfl⟩
abbrev main_cst_14 : Ref sig .tc := ⟨.hbm, 129, rfl⟩
abbrev main_v95 : Ref sig .tc := ⟨.hbm, 130, rfl⟩
abbrev main_v96 : Ref sig .tc := ⟨.hbm, 131, rfl⟩
abbrev main_cst_15 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_16 : Ref sig .tc := ⟨.hbm, 139, rfl⟩
abbrev main_v103 : Ref sig .tc := ⟨.hbm, 140, rfl⟩
abbrev main_v104 : Ref sig .tc := ⟨.hbm, 141, rfl⟩
abbrev main_cst_17 : Ref sig .tc := ⟨.hbm, 142, rfl⟩
abbrev main_v105 : Ref sig .tc := ⟨.hbm, 143, rfl⟩
abbrev main_v106 : Ref sig .tc := ⟨.hbm, 144, rfl⟩
abbrev main_cst_18 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_19 : Ref sig .tc := ⟨.hbm, 169, rfl⟩
abbrev main_v130 : Ref sig .tc := ⟨.hbm, 170, rfl⟩
abbrev main_v131 : Ref sig .tc := ⟨.hbm, 171, rfl⟩
abbrev main_cst_20 : Ref sig .tc := ⟨.hbm, 172, rfl⟩
abbrev main_v132 : Ref sig .tc := ⟨.hbm, 173, rfl⟩
abbrev main_v133 : Ref sig .tc := ⟨.hbm, 174, rfl⟩
abbrev main_cst_21 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_call0_cst : Ref sig .tc := ⟨.hbm, 186, rfl⟩
abbrev main_call0_v0 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_22 : Ref sig .tc := ⟨.hbm, 195, rfl⟩
abbrev main_v151 : Ref sig .tc := ⟨.hbm, 196, rfl⟩
abbrev main_v152 : Ref sig .tc := ⟨.hbm, 197, rfl⟩
abbrev main_cst_23 : Ref sig .tc := ⟨.hbm, 198, rfl⟩
abbrev main_v153 : Ref sig .tc := ⟨.hbm, 199, rfl⟩
abbrev main_v154 : Ref sig .tc := ⟨.hbm, 200, rfl⟩
abbrev main_cst_24 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_25 : Ref sig .tc := ⟨.hbm, 214, rfl⟩
abbrev main_v167 : Ref sig .tc := ⟨.hbm, 215, rfl⟩
abbrev main_v168 : Ref sig .tc := ⟨.hbm, 216, rfl⟩
abbrev main_cst_26 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_27 : Ref sig .tc := ⟨.hbm, 226, rfl⟩
abbrev main_v177 : Ref sig .tc := ⟨.hbm, 227, rfl⟩
abbrev main_v178 : Ref sig .tc := ⟨.hbm, 228, rfl⟩
abbrev main_cst_28 : Ref sig .tc := ⟨.hbm, 229, rfl⟩
abbrev main_v179 : Ref sig .tc := ⟨.hbm, 230, rfl⟩
abbrev main_v180 : Ref sig .tc := ⟨.hbm, 231, rfl⟩
abbrev main_cst_29 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩

abbrev nD : Nat := 1
abbrev τ : Topo := Topo.v7x

variable {F : FTy → Type} [FloatOps F]
-- ==== Proof.Spec.lean ====
module

public import Idealize.ShloMosaic.Lib.Pointwise

@[expose] public section

/-! The layer's mathematics, one position at a time, over the extended reals. Both programs' kernels and
both references are read as these functions of a position's row, its history and the weights. -/

noncomputable section

open Idealize.ShloMosaic

namespace Cert.Spec

/-- The weights of the layer. -/
structure Wts where
  gMix : Fin 1024 → EReal
  wIn : Fin 1024 → Fin 6144 → EReal
  wConv : Fin 3 → Fin 1024 → EReal
  wOc : Fin 1024 → Fin 1024 → EReal
  wPool : Fin 4 → Fin 256 → Fin 256 → EReal
  pSc : Fin 1024 → EReal
  wO : Fin 1024 → Fin 1024 → EReal
  gMlp : Fin 1024 → EReal
  wUp : Fin 1024 → Fin 4096 → EReal
  wDown : Fin 4096 → Fin 1024 → EReal
  gPle : Fin 1024 → EReal
  wPg : Fin 1024 → Fin 1024 → EReal
  wPp : Fin 256 → Fin 1024 → EReal
  gFin : Fin 1024 → EReal

/-- The mean-square norm of a row `x`, scaled by `g`. -/
def nrm (g x : Fin 1024 → EReal) (k : Fin 1024) : EReal :=
  x k * Ideal.rsqrt (Ideal.div (∑ j, x j * x j) (Ideal.ofBits .f32 1149239296#32) + Ideal.ofBits .f32 897988541#32) * g k

/-- The fused input projection of a row. -/
def zRow (W : Wts) (x : Fin 1024 → EReal) (n : Fin 6144) : EReal := ∑ k, nrm W.gMix x k * W.wIn k n

/-- The convolution's input: the product of the second and the third part of the projection. -/
def uRow (W : Wts) (x : Fin 1024 → EReal) (d : Fin 1024) : EReal :=
  zRow W x ⟨1024 + d.val, by omega⟩ * zRow W x ⟨2048 + d.val, by omega⟩

/-- The pooling branch's input: the fourth part of the projection. -/
def vRow (W : Wts) (x : Fin 1024 → EReal) (d : Fin 1024) : EReal := zRow W x ⟨3072 + d.val, by omega⟩

/-- The gated short convolution of one position; `us j` is the convolution's input `j` positions back. -/
def yaRow (W : Wts) (x : Fin 1024 → EReal) (us : ℕ → Fin 1024 → EReal) (d : Fin 1024) : EReal :=
  ∑ e : Fin 1024, zRow W x ⟨e.val, by omega⟩ * (us 2 e * W.wConv 0 e + us 1 e * W.wConv 1 e + us 0 e * W.wConv 2 e) * W.wOc e d

/-- The sum of the last `n` rows. -/
def win (n : ℕ) (vs : ℕ → Fin 1024 → EReal) (d : Fin 1024) : EReal := ∑ j ∈ Finset.range n, vs j d

/-- One pooling group: the mean over its window less the current value, through the group's square matrix. -/
def pg (W : Wts) (vs : ℕ → Fin 1024 → EReal) (pos : EReal) (g : Fin 4) (n : ℕ) (wb : BitVec 32) (e : Fin 256) : EReal :=
  ∑ x : Fin 256, (Ideal.div (win n vs ⟨256 * g.val + x.val, by omega⟩) (min (Ideal.ofBits .f32 wb) (pos + 1))
    - vs 0 ⟨256 * g.val + x.val, by omega⟩) * W.wPool g x e

/-- The four pooling groups side by side. -/
def ybPre (W : Wts) (vs : ℕ → Fin 1024 → EReal) (pos : EReal) (d : Fin 1024) : EReal :=
  if h : d.val < 256 then pg W vs pos 0 2 1073741824#32 ⟨d.val, h⟩
  else if h : d.val - 256 < 256 then pg W vs pos 1 4 1082130432#32 ⟨d.val - 256, h⟩
  else if h : d.val - 256 - 256 < 256 then pg W vs pos 2 8 1090519040#32 ⟨d.val - 256 - 256, h⟩
  else pg W vs pos 3 16 1098907648#32 ⟨d.val - 256 - 256 - 256, by omega⟩

/-- The pooling branch of one position. -/
def ybRow (W : Wts) (vs : ℕ → Fin 1024 → EReal) (pos : EReal) (d : Fin 1024) : EReal := ybPre W vs pos d * W.pSc d

/-- The gated sum of the two branches. -/
def mrgRow (W : Wts) (x : Fin 1024 → EReal) (us vs : ℕ → Fin 1024 → EReal) (pos : EReal) (e : Fin 1024) : EReal :=
  Ideal.logistic (zRow W x ⟨4096 + e.val, by omega⟩) * yaRow W x us e
    + Ideal.logistic (zRow W x ⟨5120 + e.val, by omega⟩) * ybRow W vs pos e

/-- The residual row after the two mixing branches, gated and projected. -/
def hRow (W : Wts) (x : Fin 1024 → EReal) (us vs : ℕ → Fin 1024 → EReal) (pos : EReal) (d : Fin 1024) : EReal :=
  x d + ∑ e : Fin 1024, mrgRow W x us vs pos e * W.wO e d

/-- The hidden unit `f` of the squared-relu MLP, times its row of the second matrix. -/
def mlpTerm (W : Wts) (h : Fin 1024 → EReal) (d : Fin 1024) (f : Fin 4096) : EReal :=
  max (∑ k, nrm W.gMlp h k * W.wUp k f) 0 * max (∑ k, nrm W.gMlp h k * W.wUp k f) 0 * W.wDown f d

/-- The residual row after the MLP. -/
def mlpRow (W : Wts) (h : Fin 1024 → EReal) (d : Fin 1024) : EReal := h d + ∑ f, mlpTerm W h d f

/-- The residual row after the gated per-layer embedding. -/
def pleRow (W : Wts) (m : Fin 1024 → EReal) (p : Fin 256 → EReal) (d : Fin 1024) : EReal :=
  m d + Ideal.logistic (∑ k, nrm W.gPle m k * W.wPg k d) * ∑ q, p q * W.wPp q d

/-- The layer's output at one position. -/
def yRow (W : Wts) (x : Fin 1024 → EReal) (us vs : ℕ → Fin 1024 → EReal) (pos : EReal) (p : Fin 256 → EReal)
    (d : Fin 1024) : EReal :=
  nrm W.gFin (pleRow W (mlpRow W (hRow W x us vs pos)) p) d

/-- The MLP's sum taken in four chunks of 1024 hidden units. -/
theorem sum_chunks (F : Fin 4096 → EReal) :
    ∑ f, F f = ∑ x : Fin 1024, F ⟨x.val, by omega⟩ + ∑ x : Fin 1024, F ⟨1024 + x.val, by omega⟩
      + ∑ x : Fin 1024, F ⟨2048 + x.val, by omega⟩ + ∑ x : Fin 1024, F ⟨3072 + x.val, by omega⟩ := by
  rw [show (∑ f, F f) = ∑ f : Fin (1024 + 1024 + 1024 + 1024), F f from rfl, Fin.sum_univ_add, Fin.sum_univ_add,
    Fin.sum_univ_add]
  rfl

theorem mlpRow_chunks (W : Wts) (h : Fin 1024 → EReal) (d : Fin 1024) :
    mlpRow W h d = h d + ∑ x : Fin 1024, mlpTerm W h d ⟨x.val, by omega⟩
      + ∑ x : Fin 1024, mlpTerm W h d ⟨1024 + x.val, by omega⟩
      + ∑ x : Fin 1024, mlpTerm W h d ⟨2048 + x.val, by omega⟩
      + ∑ x : Fin 1024, mlpTerm W h d ⟨3072 + x.val, by omega⟩ := by
  rw [mlpRow, sum_chunks]
  simp only [add_assoc]

end Cert.Spec
-- ==== Proof.PoolKey.lean ====
module

public import proofs.«01_k».proof.Proof.Spec

@[expose] public section

/-! The pooling groups written as one ladder over the columns, as a reference states them; and which rows of its
history an output row depends on. -/

noncomputable section
open Idealize.ShloMosaic
namespace Cert.Spec

/-- The column ladder summed against a group's matrix is that group. -/
theorem pool_key (W : Wts) (vs : ℕ → Fin 1024 → EReal) (pos : EReal) (d : Fin 1024) :
    (∑ x : Fin 256, W.wPool ⟨d.val / 256, by omega⟩ x ⟨d.val % 256, by omega⟩ *
      ((if h : d.val / 256 * 256 + x.val < 256 then
          Ideal.div (win 2 vs ⟨0 + (d.val / 256 * 256 + x.val), by omega⟩) (min (Ideal.ofBits .f32 1073741824#32) (pos + 1))
        else if h : d.val / 256 * 256 + x.val - 256 < 256 then
          Ideal.div (win 4 vs ⟨256 + (d.val / 256 * 256 + x.val - 256), by omega⟩) (min (Ideal.ofBits .f32 1082130432#32) (pos + 1))
        else if h : d.val / 256 * 256 + x.val - 256 - 256 < 256 then
          Ideal.div (win 8 vs ⟨512 + (d.val / 256 * 256 + x.val - 256 - 256), by omega⟩) (min (Ideal.ofBits .f32 1090519040#32) (pos + 1))
        else
          Ideal.div (win 16 vs ⟨768 + (d.val / 256 * 256 + x.val - 256 - 256 - 256), by omega⟩) (min (Ideal.ofBits .f32 1098907648#32) (pos + 1)))
        - vs 0 ⟨d.val / 256 * 256 + x.val, by omega⟩)) = ybPre W vs pos d := by
  unfold ybPre
  by_cases h0 : d.val < 256
  · rw [dif_pos h0, pg]
    refine Finset.sum_congr rfl fun x _ => ?_
    rw [dif_pos (by omega), mul_comm]
    congr 3 <;> first | (congr 1; apply Fin.ext; simp only [Fin.val_zero, Fin.val_one]; omega) | (apply Fin.ext; simp only [Fin.val_zero]; omega) | omega | (show d.val / 256 = 0; omega) | skip
  rw [dif_neg h0]
  by_cases h1 : d.val - 256 < 256
  · rw [dif_pos h1, pg]
    refine Finset.sum_congr rfl fun x _ => ?_
    rw [dif_neg (by omega), dif_pos (by omega), mul_comm]
    congr 3 <;> first | (congr 1; apply Fin.ext; simp only [Fin.val_zero, Fin.val_one]; omega) | (apply Fin.ext; simp only [Fin.val_one]; omega) | omega | (show d.val / 256 = 1; omega) | skip
  rw [dif_neg h1]
  by_cases h2 : d.val - 256 - 256 < 256
  · rw [dif_pos h2, pg]
    refine Finset.sum_congr rfl fun x _ => ?_
    rw [dif_neg (by omega), dif_neg (by omega), dif_pos (by omega), mul_comm]
    have e2 : ((2 : Fin 4)).val = 2 := rfl
    congr 3 <;> first | (congr 1; apply Fin.ext; simp only [e2]; omega) | (apply Fin.ext; simp only [e2]; omega) | omega | (show d.val / 256 = 2; omega) | skip
  rw [dif_neg h2, pg]
  refine Finset.sum_congr rfl fun x _ => ?_
  rw [dif_neg (by omega), dif_neg (by omega), dif_neg (by omega), mul_comm]
  have e3 : ((3 : Fin 4)).val = 3 := rfl
  congr 3 <;> first | (congr 1; apply Fin.ext; simp only [e3]; omega) | (apply Fin.ext; simp only [e3]; omega) | omega | (show d.val / 256 = 3; omega) | skip

theorem win_congr (n : ℕ) (hn : n ≤ 16) {vs vs' : ℕ → Fin 1024 → EReal} (hv : ∀ j, j < 16 → vs j = vs' j) :
    win n vs = win n vs' := by
  funext d
  unfold win
  exact Finset.sum_congr rfl fun j hj => by rw [hv j (by have := Finset.mem_range.1 hj; omega)]

/-- An output row depends on three rows of the one history and on sixteen of the other. -/
theorem yRow_congr (W : Wts) (x : Fin 1024 → EReal) {us us' vs vs' : ℕ → Fin 1024 → EReal} {pos pos' : EReal}
    (p : Fin 256 → EReal) (hu : ∀ j, j < 3 → us j = us' j) (hv : ∀ j, j < 16 → vs j = vs' j) (hp : pos = pos') :
    yRow W x us vs pos p = yRow W x us' vs' pos' p := by
  subst hp
  have hpg : ∀ g n wb, n ≤ 16 → pg W vs pos g n wb = pg W vs' pos g n wb := by
    intro g n wb hn
    funext e
    unfold pg
    rw [win_congr n hn hv, hv 0 (by omega)]
  have hyb : ybRow W vs pos = ybRow W vs' pos := by
    funext d
    unfold ybRow ybPre
    rw [hpg 0 2 _ (by omega), hpg 1 4 _ (by omega), hpg 2 8 _ (by omega), hpg 3 16 _ (by omega)]
  have hya : yaRow W x us = yaRow W x us' := by
    funext d
    unfold yaRow
    rw [hu 0 (by omega), hu 1 (by omega), hu 2 (by omega)]
  have hh : hRow W x us vs pos = hRow W x us' vs' pos := by
    funext d
    unfold hRow mrgRow
    rw [hyb, hya]
  funext d
  unfold yRow
  rw [hh]

end Cert.Spec
-- ==== Proof.Pool1.lean ====
module

public import Idealize.ShloMosaic.Lib.Pointwise
public import proofs.«01_k».proof.Proof.Gen.ReferenceIdeal.Run

@[expose] public section

set_option maxRecDepth 16384

/-! A windowed sum of the reference, read at an index: the sum of the window's rows. -/

noncomputable section
open Idealize.ShloMosaic Idealize.ShloMosaic.TcCoe Idealize.SL.Sem
namespace Cert.ReferenceIdeal.Rf
open Cert.ReferenceIdeal Cert.ReferenceIdeal.Gen

/-- A fold of additions is the starting value plus the sum. -/
theorem foldl_add {N : ℕ} (f : Fin N → EReal) (v : EReal) :
    (List.finRange N).foldl (fun r n => r + f n) v = v + ∑ n, f n := by
  have key : ∀ (l : List (Fin N)) (v : EReal),
      l.foldl (fun r n => r + f n) v = v + (l.map f).sum := by
    intro l
    induction l with
    | nil => intro v; simp
    | cons a l ih => intro v; simp [ih, add_assoc]
  rw [key, Fin.sum_univ_def]

/-- The sum over a window of 2 rows. -/
theorem pool2 (x : FVec Ideal S8x2049x256 .f32) (v : FVec Ideal S_ .f32) (hv : ∀ i, v i = 0)
    (b : Fin 8) (t : Fin 2048) (c : Fin 256) :
    Host.reduceWindowAdd ![1, 2, 1] ![1, 1, 1] ![0, 0, 0] ![0, 0, 0] x v
      reduceWindows_S8x2049x256_S8x2048x256_w1s1p0_0_w2s1p0_0_w1s1p0_0 h_S_ (ix3 b t c)
      = ∑ n : Fin 2, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 2, 1]⟩ : Shape).numel) _ 0).trans ?_
  rw [zero_add]
  refine Finset.sum_congr rfl fun n _ => ?_
  have hW : ∀ n : Fin 2, ∀ a : Fin 3,
      (((⟨3, ![1, 2, 1]⟩ : Shape).rowMajor.symm n) a).val = ![0, n.val, 0] a := by decide +kernel
  have hw := hW n
  rw [dif_pos]
  · congr 1
    funext a
    fin_cases a <;> apply Fin.ext
    · show b.val * 1 + (((⟨3, ![1, 2, 1]⟩ : Shape).rowMajor.symm n) 0).val - 0 = b.val
      rw [hw 0]; simp
    · show t.val * 1 + (((⟨3, ![1, 2, 1]⟩ : Shape).rowMajor.symm n) 1).val - 0 = t.val + n.val
      rw [hw 1]; simp
    · show c.val * 1 + (((⟨3, ![1, 2, 1]⟩ : Shape).rowMajor.symm n) 2).val - 0 = c.val
      rw [hw 2]; simp
  · intro a
    refine ⟨by fin_cases a <;> exact Nat.zero_le _, ?_⟩
    fin_cases a
    · show b.val * 1 + (((⟨3, ![1, 2, 1]⟩ : Shape).rowMajor.symm n) 0).val - 0 < 8
      rw [hw 0]; simp
    · show t.val * 1 + (((⟨3, ![1, 2, 1]⟩ : Shape).rowMajor.symm n) 1).val - 0 < 2049
      rw [hw 1]; simp; omega
    · show c.val * 1 + (((⟨3, ![1, 2, 1]⟩ : Shape).rowMajor.symm n) 2).val - 0 < 256
      rw [hw 2]; simp

/-- The sum over a window of 4 rows. -/
theorem pool4 (x : FVec Ideal S8x2051x256 .f32) (v : FVec Ideal S_ .f32) (hv : ∀ i, v i = 0)
    (b : Fin 8) (t : Fin 2048) (c : Fin 256) :
    Host.reduceWindowAdd ![1, 4, 1] ![1, 1, 1] ![0, 0, 0] ![0, 0, 0] x v
      reduceWindows_S8x2051x256_S8x2048x256_w1s1p0_0_w4s1p0_0_w1s1p0_0 h_S_ (ix3 b t c)
      = ∑ n : Fin 4, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 4, 1]⟩ : Shape).numel) _ 0).trans ?_
  rw [zero_add]
  refine Finset.sum_congr rfl fun n _ => ?_
  have hW : ∀ n : Fin 4, ∀ a : Fin 3,
      (((⟨3, ![1, 4, 1]⟩ : Shape).rowMajor.symm n) a).val = ![0, n.val, 0] a := by decide +kernel
  have hw := hW n
  rw [dif_pos]
  · congr 1
    funext a
    fin_cases a <;> apply Fin.ext
    · show b.val * 1 + (((⟨3, ![1, 4, 1]⟩ : Shape).rowMajor.symm n) 0).val - 0 = b.val
      rw [hw 0]; simp
    · show t.val * 1 + (((⟨3, ![1, 4, 1]⟩ : Shape).rowMajor.symm n) 1).val - 0 = t.val + n.val
      rw [hw 1]; simp
    · show c.val * 1 + (((⟨3, ![1, 4, 1]⟩ : Shape).rowMajor.symm n) 2).val - 0 = c.val
      rw [hw 2]; simp
  · intro a
    refine ⟨by fin_cases a <;> exact Nat.zero_le _, ?_⟩
    fin_cases a
    · show b.val * 1 + (((⟨3, ![1, 4, 1]⟩ : Shape).rowMajor.symm n) 0).val - 0 < 8
      rw [hw 0]; simp
    · show t.val * 1 + (((⟨3, ![1, 4, 1]⟩ : Shape).rowMajor.symm n) 1).val - 0 < 2051
      rw [hw 1]; simp; omega
    · show c.val * 1 + (((⟨3, ![1, 4, 1]⟩ : Shape).rowMajor.symm n) 2).val - 0 < 256
      rw [hw 2]; simp

/-- The sum over a window of 8 rows. -/
theorem pool8 (x : FVec Ideal S8x2055x256 .f32) (v : FVec Ideal S_ .f32) (hv : ∀ i, v i = 0)
    (b : Fin 8) (t : Fin 2048) (c : Fin 256) :
    Host.reduceWindowAdd ![1, 8, 1] ![1, 1, 1] ![0, 0, 0] ![0, 0, 0] x v
      reduceWindows_S8x2055x256_S8x2048x256_w1s1p0_0_w8s1p0_0_w1s1p0_0 h_S_ (ix3 b t c)
      = ∑ n : Fin 8, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 8, 1]⟩ : Shape).numel) _ 0).trans ?_
  rw [zero_add]
  refine Finset.sum_congr rfl fun n _ => ?_
  have hW : ∀ n : Fin 8, ∀ a : Fin 3,
      (((⟨3, ![1, 8, 1]⟩ : Shape).rowMajor.symm n) a).val = ![0, n.val, 0] a := by decide +kernel
  have hw := hW n
  rw [dif_pos]
  · congr 1
    funext a
    fin_cases a <;> apply Fin.ext
    · show b.val * 1 + (((⟨3, ![1, 8, 1]⟩ : Shape).rowMajor.symm n) 0).val - 0 = b.val
      rw [hw 0]; simp
    · show t.val * 1 + (((⟨3, ![1, 8, 1]⟩ : Shape).rowMajor.symm n) 1).val - 0 = t.val + n.val
      rw [hw 1]; simp
    · show c.val * 1 + (((⟨3, ![1, 8, 1]⟩ : Shape).rowMajor.symm n) 2).val - 0 = c.val
      rw [hw 2]; simp
  · intro a
    refine ⟨by fin_cases a <;> exact Nat.zero_le _, ?_⟩
    fin_cases a
    · show b.val * 1 + (((⟨3, ![1, 8, 1]⟩ : Shape).rowMajor.symm n) 0).val - 0 < 8
      rw [hw 0]; simp
    · show t.val * 1 + (((⟨3, ![1, 8, 1]⟩ : Shape).rowMajor.symm n) 1).val - 0 < 2055
      rw [hw 1]; simp; omega
    · show c.val * 1 + (((⟨3, ![1, 8, 1]⟩ : Shape).rowMajor.symm n) 2).val - 0 < 256
      rw [hw 2]; simp

/-- The sum over a window of 16 rows. -/
theorem pool16 (x : FVec Ideal S8x2063x256 .f32) (v : FVec Ideal S_ .f32) (hv : ∀ i, v i = 0)
    (b : Fin 8) (t : Fin 2048) (c : Fin 256) :
    Host.reduceWindowAdd ![1, 16, 1] ![1, 1, 1] ![0, 0, 0] ![0, 0, 0] x v
      reduceWindows_S8x2063x256_S8x2048x256_w1s1p0_0_w16s1p0_0_w1s1p0_0 h_S_ (ix3 b t c)
      = ∑ n : Fin 16, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 16, 1]⟩ : Shape).numel) _ 0).trans ?_
  rw [zero_add]
  refine Finset.sum_congr rfl fun n _ => ?_
  have hW : ∀ n : Fin 16, ∀ a : Fin 3,
      (((⟨3, ![1, 16, 1]⟩ : Shape).rowMajor.symm n) a).val = ![0, n.val, 0] a := by decide +kernel
  have hw := hW n
  rw [dif_pos]
  · congr 1
    funext a
    fin_cases a <;> apply Fin.ext
    · show b.val * 1 + (((⟨3, ![1, 16, 1]⟩ : Shape).rowMajor.symm n) 0).val - 0 = b.val
      rw [hw 0]; simp
    · show t.val * 1 + (((⟨3, ![1, 16, 1]⟩ : Shape).rowMajor.symm n) 1).val - 0 = t.val + n.val
      rw [hw 1]; simp
    · show c.val * 1 + (((⟨3, ![1, 16, 1]⟩ : Shape).rowMajor.symm n) 2).val - 0 = c.val
      rw [hw 2]; simp
  · intro a
    refine ⟨by fin_cases a <;> exact Nat.zero_le _, ?_⟩
    fin_cases a
    · show b.val * 1 + (((⟨3, ![1, 16, 1]⟩ : Shape).rowMajor.symm n) 0).val - 0 < 8
      rw [hw 0]; simp
    · show t.val * 1 + (((⟨3, ![1, 16, 1]⟩ : Shape).rowMajor.symm n) 1).val - 0 < 2063
      rw [hw 1]; simp; omega
    · show c.val * 1 + (((⟨3, ![1, 16, 1]⟩ : Shape).rowMajor.symm n) 2).val - 0 < 256
      rw [hw 2]; simp

end Cert.ReferenceIdeal.Rf
-- ==== Proof.Ref1.lean ====
module

public import Idealize.ShloMosaic.Lib.Tactic.CleanTypes
public import proofs.«01_k».proof.Proof.Pool1
public import proofs.«01_k».proof.Proof.Spec

@[expose] public section

set_option maxRecDepth 16384

/-! The reference's stages, each read at an index as the layer's mathematics at that position. -/

noncomputable section
open Idealize.ShloMosaic Idealize.ShloMosaic.TcCoe Idealize.SL.Sem Idealize.ShloMosaic.StableHlo
open Cert.Spec
namespace Cert.ReferenceIdeal.Rf
open Cert.ReferenceIdeal Cert.ReferenceIdeal.Gen Cert.ReferenceIdeal.Value

variable (V0 : Valuation τ sig (Elt Ideal))

/-- The weights, read from the arguments. -/
def wtsR : Wts where
  gMix k := (show FVec Ideal S1x1024 .f32 from V0 (Proc.devRef .tc main_arg2)) (ix2 0 k)
  wIn k n := (show FVec Ideal S1x1024x6144 .f32 from V0 (Proc.devRef .tc main_arg3)) (ix3 0 k n)
  wConv j k := (show FVec Ideal S1x3x1024 .f32 from V0 (Proc.devRef .tc main_arg4)) (ix3 0 j k)
  wOc k d := (show FVec Ideal S1x1024x1024 .f32 from V0 (Proc.devRef .tc main_arg5)) (ix3 0 k d)
  wPool g x e := (show FVec Ideal S1x4x256x256 .f32 from V0 (Proc.devRef .tc main_arg6)) (ix4 0 g x e)
  pSc k := (show FVec Ideal S1x1024 .f32 from V0 (Proc.devRef .tc main_arg7)) (ix2 0 k)
  wO k d := (show FVec Ideal S1x1024x1024 .f32 from V0 (Proc.devRef .tc main_arg8)) (ix3 0 k d)
  gMlp k := (show FVec Ideal S1x1024 .f32 from V0 (Proc.devRef .tc main_arg9)) (ix2 0 k)
  wUp k f := (show FVec Ideal S1x1024x4096 .f32 from V0 (Proc.devRef .tc main_arg10)) (ix3 0 k f)
  wDown f d := (show FVec Ideal S1x4096x1024 .f32 from V0 (Proc.devRef .tc main_arg11)) (ix3 0 f d)
  gPle k := (show FVec Ideal S1x1024 .f32 from V0 (Proc.devRef .tc main_arg12)) (ix2 0 k)
  wPg k d := (show FVec Ideal S1x1024x1024 .f32 from V0 (Proc.devRef .tc main_arg13)) (ix3 0 k d)
  wPp q d := (show FVec Ideal S1x256x1024 .f32 from V0 (Proc.devRef .tc main_arg14)) (ix3 0 q d)
  gFin k := (show FVec Ideal S1024 .f32 from V0 (Proc.devRef .tc main_arg15)) (ix1 k)

/-- The input row of a position. -/
def xR (b : Fin 8) (t : Fin 2048) (k : Fin 1024) : EReal :=
  (show FVec Ideal S8x2048x1024 .f32 from V0 (Proc.devRef .tc main_arg0)) (ix3 b t k)

/-- The per-layer embedding row of a position. -/
def pR (b : Fin 8) (t : Fin 2048) (k : Fin 256) : EReal :=
  (show FVec Ideal S1x8x2048x256 .f32 from V0 (Proc.devRef .tc main_arg1)) (ix4 0 b t k)

/-- The convolution's input `j` positions back. -/
def usR (b : Fin 8) (t : Fin 2048) (j : ℕ) (d : Fin 1024) : EReal :=
  (show FVec Ideal S8x2050x1024 .f32 from res_main_v39 V0) (ix3 b ⟨2 + t.val - j, by omega⟩ d)

/-- The pooling branch's input `j` positions back. -/
def vsR (b : Fin 8) (t : Fin 2048) (j : ℕ) (d : Fin 1024) : EReal :=
  (show FVec Ideal S8x2063x1024 .f32 from res_main_v69 V0) (ix3 b ⟨15 + t.val - j, by omega⟩ d)

/-- A position, as the reference counts it. -/
def posR (t : Fin 2048) : EReal := (show FVec Ideal S2048 .f32 from res_main_v73 V0) (ix1 t)

theorem z_row (b : Fin 8) (t : Fin 2048) (n : Fin 6144) :
    (show FVec Ideal S8x2048x6144 .f32 from res_main_v17 V0) (ix3 b t n) = zRow (wtsR V0) (xR V0 b t) n := by
  unfold res_main_v17 zRow nrm wtsR xR
  clean_types
  pointwise

theorem v_row (b : Fin 8) (t : Fin 2048) (d : Fin 1024) :
    (show FVec Ideal S8x2048x1024 .f32 from res_main_v21 V0) (ix3 b t d) = vRow (wtsR V0) (xR V0 b t) d := by
  unfold res_main_v21 vRow
  rw [← z_row]
  clean_types
  pointwise

theorem v_cur (b : Fin 8) (t : Fin 2048) (d : Fin 1024) :
    (show FVec Ideal S8x2048x1024 .f32 from res_main_v21 V0) (ix3 b t d) = vsR V0 b t 0 d := by
  unfold vsR res_main_v69
  clean_types
  pointwise

/-- The windowed sum of a pooling group of 2 rows. -/
theorem win2 (b : Fin 8) (t : Fin 2048) (c : Fin 256) :
    Host.reduceWindowAdd (F := Ideal) (φ := .f32) ![1, 2, 1] ![1, 1, 1] ![0, 0, 0] ![0, 0, 0]
      (extractStridedSlice S8x2049x256 ![0, 14, 0] (res_main_v69 V0) slices_S8x2063x1024_S8x2049x256_0_14_0)
      (broadcastInDim S_ ![] bcast_S_S_ (constant S_ .f32 0x00000000#32))
      reduceWindows_S8x2049x256_S8x2048x256_w1s1p0_0_w2s1p0_0_w1s1p0_0 h_S_ (ix3 b t c)
      = win 2 (vsR V0 b t) ⟨0 + c.val, by omega⟩ := by
  rw [pool2 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 4 rows. -/
theorem win4 (b : Fin 8) (t : Fin 2048) (c : Fin 256) :
    Host.reduceWindowAdd (F := Ideal) (φ := .f32) ![1, 4, 1] ![1, 1, 1] ![0, 0, 0] ![0, 0, 0]
      (extractStridedSlice S8x2051x256 ![0, 12, 256] (res_main_v69 V0) slices_S8x2063x1024_S8x2051x256_0_12_256)
      (broadcastInDim S_ ![] bcast_S_S_ (constant S_ .f32 0x00000000#32))
      reduceWindows_S8x2051x256_S8x2048x256_w1s1p0_0_w4s1p0_0_w1s1p0_0 h_S_ (ix3 b t c)
      = win 4 (vsR V0 b t) ⟨256 + c.val, by omega⟩ := by
  rw [pool4 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 8 rows. -/
theorem win8 (b : Fin 8) (t : Fin 2048) (c : Fin 256) :
    Host.reduceWindowAdd (F := Ideal) (φ := .f32) ![1, 8, 1] ![1, 1, 1] ![0, 0, 0] ![0, 0, 0]
      (extractStridedSlice S8x2055x256 ![0, 8, 512] (res_main_v69 V0) slices_S8x2063x1024_S8x2055x256_0_8_512)
      (broadcastInDim S_ ![] bcast_S_S_ (constant S_ .f32 0x00000000#32))
      reduceWindows_S8x2055x256_S8x2048x256_w1s1p0_0_w8s1p0_0_w1s1p0_0 h_S_ (ix3 b t c)
      = win 8 (vsR V0 b t) ⟨512 + c.val, by omega⟩ := by
  rw [pool8 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 16 rows. -/
theorem win16 (b : Fin 8) (t : Fin 2048) (c : Fin 256) :
    Host.reduceWindowAdd (F := Ideal) (φ := .f32) ![1, 16, 1] ![1, 1, 1] ![0, 0, 0] ![0, 0, 0]
      (extractStridedSlice S8x2063x256 ![0, 0, 768] (res_main_v69 V0) slices_S8x2063x1024_S8x2063x256_0_0_768)
      (broadcastInDim S_ ![] bcast_S_S_ (constant S_ .f32 0x00000000#32))
      reduceWindows_S8x2063x256_S8x2048x256_w1s1p0_0_w16s1p0_0_w1s1p0_0 h_S_ (ix3 b t c)
      = win 16 (vsR V0 b t) ⟨768 + c.val, by omega⟩ := by
  rw [pool16 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

theorem u_at2 (b : Fin 8) (t : Fin 2048) (d : Fin 1024) (h : 2 + t.val < 2050) :
    (show FVec Ideal S8x2050x1024 .f32 from res_main_v39 V0) (ix3 b ⟨2 + t.val, h⟩ d) = usR V0 b t 0 d := rfl

theorem u_at1 (b : Fin 8) (t : Fin 2048) (d : Fin 1024) (h : 1 + t.val < 2050) :
    (show FVec Ideal S8x2050x1024 .f32 from res_main_v39 V0) (ix3 b ⟨1 + t.val, h⟩ d) = usR V0 b t 1 d := by
  unfold usR
  congr 2
  apply Fin.ext
  show 1 + t.val = 2 + t.val - 1
  omega

theorem u_at0 (b : Fin 8) (t : Fin 2048) (d : Fin 1024) (h : t.val < 2050) :
    (show FVec Ideal S8x2050x1024 .f32 from res_main_v39 V0) (ix3 b ⟨t.val, h⟩ d) = usR V0 b t 2 d := by
  unfold usR
  congr 2
  apply Fin.ext
  show t.val = 2 + t.val - 2
  omega

end Cert.ReferenceIdeal.Rf
-- ==== Proof.RefMix1.lean ====
module

public import proofs.«01_k».proof.Proof.PoolKey
public import proofs.«01_k».proof.Proof.Ref1

@[expose] public section

set_option maxRecDepth 16384

/-! The reference's later stages and its results, each the layer's mathematics at that position. -/

noncomputable section
open Idealize.ShloMosaic Idealize.ShloMosaic.TcCoe Idealize.SL.Sem Idealize.ShloMosaic.StableHlo
open Cert.Spec
namespace Cert.ReferenceIdeal.Rf
open Cert.ReferenceIdeal Cert.ReferenceIdeal.Gen Cert.ReferenceIdeal.Value

variable (V0 : Valuation τ sig (Elt Ideal))

set_option maxHeartbeats 1600000 in
theorem mrg_row (b : Fin 8) (t : Fin 2048) (d : Fin 1024) :
    (show FVec Ideal S8x2048x1024 .f32 from res_main_v126 V0) (ix3 b t d)
      = mrgRow (wtsR V0) (xR V0 b t) (usR V0 b t) (vsR V0 b t) (posR V0 t) d := by
  unfold res_main_v126
  clean_types
  pointwise
  simp only [win2 V0, win4 V0, win8 V0, win16 V0]
  unfold mrgRow
  refine congrArg₂ (· + ·) (congrArg₂ (· * ·) ?_ ?_) (congrArg₂ (· * ·) ?_ ?_)
  · rw [← z_row]
    rfl
  · unfold yaRow
    refine Finset.sum_congr rfl fun x _ => ?_
    rw [← z_row, ← u_at2 V0 b t x (by omega), ← u_at1 V0 b t x (by omega), ← u_at0 V0 b t x (by omega)]
    unfold wtsR res_main_v37
    clean_types
    pointwise
  · rw [← z_row]
    rfl
  · unfold ybRow
    refine congrArg₂ (· * ·) ?_ rfl
    rw [← pool_key]
    refine Finset.sum_congr rfl fun x _ => ?_
    refine congrArg₂ (· * ·) rfl (congrArg₂ (· - ·) rfl ?_)
    exact v_cur V0 b t _

end Cert.ReferenceIdeal.Rf
-- ==== Proof.RefOut1.lean ====
module

public import proofs.«01_k».proof.Proof.Ref1

@[expose] public section

set_option maxRecDepth 16384

/-! The reference's later stages and its results, each the layer's mathematics at that position. -/

noncomputable section
open Idealize.ShloMosaic Idealize.ShloMosaic.TcCoe Idealize.SL.Sem Idealize.ShloMosaic.StableHlo
open Cert.Spec
namespace Cert.ReferenceIdeal.Rf
open Cert.ReferenceIdeal Cert.ReferenceIdeal.Gen Cert.ReferenceIdeal.Value

variable (V0 : Valuation τ sig (Elt Ideal))

theorem h_row (b : Fin 8) (t : Fin 2048) (d : Fin 1024)
    (hm : ∀ e, (show FVec Ideal S8x2048x1024 .f32 from res_main_v126 V0) (ix3 b t e)
      = mrgRow (wtsR V0) (xR V0 b t) (usR V0 b t) (vsR V0 b t) (posR V0 t) e) :
    (show FVec Ideal S8x2048x1024 .f32 from res_main_v129 V0) (ix3 b t d)
      = hRow (wtsR V0) (xR V0 b t) (usR V0 b t) (vsR V0 b t) (posR V0 t) d := by
  unfold res_main_v129 hRow
  simp only [← hm]
  unfold wtsR xR
  clean_types
  pointwise

/-- The rows of a stage, as functions. -/
def hR (b : Fin 8) (t : Fin 2048) (d : Fin 1024) : EReal :=
  (show FVec Ideal S8x2048x1024 .f32 from res_main_v129 V0) (ix3 b t d)

def mR (b : Fin 8) (t : Fin 2048) (d : Fin 1024) : EReal :=
  (show FVec Ideal S8x2048x1024 .f32 from res_main_v150 V0) (ix3 b t d)

def eR (b : Fin 8) (t : Fin 2048) (d : Fin 1024) : EReal :=
  (show FVec Ideal S8x2048x1024 .f32 from res_main_v177 V0) (ix3 b t d)

theorem m_row (b : Fin 8) (t : Fin 2048) (d : Fin 1024) :
    mR V0 b t d = mlpRow (wtsR V0) (hR V0 b t) d := by
  unfold mR res_main_v150 mlpRow mlpTerm nrm hR wtsR
  clean_types
  pointwise
  unfold res_main_v146
  clean_types
  pointwise

theorem e_row (b : Fin 8) (t : Fin 2048) (d : Fin 1024) :
    eR V0 b t d = pleRow (wtsR V0) (mR V0 b t) (pR V0 b t) d := by
  unfold eR res_main_v177 pleRow nrm mR wtsR pR
  clean_types
  pointwise
  rfl

theorem y_row (b : Fin 8) (t : Fin 2048) (d : Fin 1024) :
    (show FVec Ideal S8x2048x1024 .f32 from val4 V0 (Proc.devRef .tc main_v190)) (ix3 b t d)
      = nrm (wtsR V0).gFin (eR V0 b t) d := by
  rw [val4_main_v190]
  unfold nrm eR wtsR
  clean_types
  pointwise

end Cert.ReferenceIdeal.Rf
-- ==== Proof.RefEnd1.lean ====
module

public import proofs.«01_k».proof.Proof.RefMix1
public import proofs.«01_k».proof.Proof.RefOut1
public import proofs.«01_k».proof.Proof.PoolKey

@[expose] public section

/-! The reference's three results, as the layer's mathematics of the arguments. -/

set_option maxRecDepth 16384

noncomputable section

open Idealize.ShloMosaic Idealize.ShloMosaic.TcCoe Idealize.SL.Sem Idealize.ShloMosaic.StableHlo
open Cert.Spec

namespace Cert.ReferenceIdeal.Rf

open Cert.ReferenceIdeal Cert.ReferenceIdeal.Gen Cert.ReferenceIdeal.Value

variable (V0 : Valuation τ sig (Elt Ideal))

/-- The convolution's history of a sequence: two rows of state, then its own. -/
def uHist (b : Fin 8) (r : ℕ) (d : Fin 1024) : EReal :=
  if h : r < 2 then 0
  else if h : r - 2 < 2048 then uRow (wtsR V0) (xR V0 b ⟨r - 2, h⟩) d else 0

/-- The pooling branch's history of a sequence: fifteen rows of state, then its own. -/
def vHist (b : Fin 8) (r : ℕ) (d : Fin 1024) : EReal :=
  if h : r < 15 then 0
  else if h : r - 15 < 2048 then vRow (wtsR V0) (xR V0 b ⟨r - 15, h⟩) d else 0

theorem u_at (b : Fin 8) (r : Fin 2050) (d : Fin 1024) :
    (show FVec Ideal S8x2050x1024 .f32 from res_main_v39 V0) (ix3 b r d) = uHist V0 b r.val d := by
  unfold uHist uRow res_main_v39
  simp only [← z_row]
  clean_types
  pointwise
  have hr := r.isLt
  by_cases h : r.val < 2
  · simp only [h, ↓reduceDIte]
  · have h' : r.val - 2 < 2048 := by omega
    simp only [h, h', ↓reduceDIte]

theorem v_at (b : Fin 8) (r : Fin 2063) (d : Fin 1024) :
    (show FVec Ideal S8x2063x1024 .f32 from res_main_v69 V0) (ix3 b r d) = vHist V0 b r.val d := by
  unfold vHist res_main_v69
  simp only [← v_row]
  clean_types
  pointwise
  have hr := r.isLt
  by_cases h : r.val < 15
  · simp only [h, ↓reduceDIte]
  · have h' : r.val - 15 < 2048 := by omega
    simp only [h, h', ↓reduceDIte]

theorem pos_at (t : Fin 2048) :
    posR V0 t = FloatOps.sitofp (F := Ideal) .f32 (IntOp.addi 0#32 (BitVec.ofNat 32 t.val)) := by
  unfold posR res_main_v73
  clean_types
  pointwise

/-- The first result at a position. -/
theorem y_all (b : Fin 8) (t : Fin 2048) (d : Fin 1024) :
    (show FVec Ideal S8x2048x1024 .f32 from val4 V0 (Proc.devRef .tc main_v190)) (ix3 b t d)
      = yRow (wtsR V0) (xR V0 b t) (fun j => uHist V0 b (2 + t.val - j)) (fun j => vHist V0 b (15 + t.val - j))
          (FloatOps.sitofp (F := Ideal) .f32 (IntOp.addi 0#32 (BitVec.ofNat 32 t.val))) (pR V0 b t) d := by
  rw [y_row, show eR V0 b t = pleRow (wtsR V0) (mR V0 b t) (pR V0 b t) from funext fun d => e_row V0 b t d,
    show mR V0 b t = mlpRow (wtsR V0) (hR V0 b t) from funext fun d => m_row V0 b t d,
    show hR V0 b t = hRow (wtsR V0) (xR V0 b t) (usR V0 b t) (vsR V0 b t) (posR V0 t) from
      funext fun d => h_row V0 b t d fun e => mrg_row V0 b t e]
  refine congrFun (yRow_congr _ _ _ ?_ ?_ (pos_at V0 t)) d
  · intro j hj
    funext e
    exact u_at V0 b _ e
  · intro j hj
    funext e
    exact v_at V0 b _ e

/-- The second result, the convolution's last two rows. -/
theorem conv_all (b : Fin 8) (l : Fin 2) (d : Fin 1024) :
    (show FVec Ideal S8x2x1024 .f32 from val4 V0 (Proc.devRef .tc main_v193)) (ix3 b l d) = uHist V0 b (2048 + l.val) d := by
  rw [val4_main_v193]
  refine Eq.trans ?_ (u_at V0 b ⟨2048 + l.val, by omega⟩ d)
  clean_types
  pointwise

/-- The third result, the pooling branch's last fifteen rows. -/
theorem pool_all (b : Fin 8) (l : Fin 15) (d : Fin 1024) :
    (show FVec Ideal S8x15x1024 .f32 from val4 V0 (Proc.devRef .tc main_v194)) (ix3 b l d) = vHist V0 b (2048 + l.val) d := by
  rw [val4_main_v194]
  refine Eq.trans ?_ (v_at V0 b ⟨2048 + l.val, by omega⟩ d)
  clean_types
  pointwise

end Cert.ReferenceIdeal.Rf
-- ==== Proof.Blk1.lean ====
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen

/-! The prompt kernel's stored terms, case by case, in named parts. -/

/-- A read from what a list of stores left is the rectangle of their canonical contents. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r := View.readCov_eq_canon' v L r.toLoadRect

/-- The tile's convolution input. -/
def uTile (x0 : Vec Ideal S1x512x1024 .f32) (x2 : Vec Ideal S1x1024 .f32) (x3 : Vec Ideal S1024x6144 .bf16) : Vec Ideal S1x512x1024 .f32 :=
  k0_pay11 (k0_pay9 x0 x2 (View.ld x3 (Rect.unit ![0, 1024] ![1024, 1024] inb_S1024x6144_S1024x1024_0_1024)))
    (k0_pay10 x0 x2 (View.ld x3 (Rect.unit ![0, 2048] ![1024, 1024] inb_S1024x6144_S1024x1024_0_2048)))

/-- The tile's pooling input. -/
def vTile (x0 : Vec Ideal S1x512x1024 .f32) (x2 : Vec Ideal S1x1024 .f32) (x3 : Vec Ideal S1024x6144 .bf16) : Vec Ideal S1x512x1024 .f32 :=
  k0_pay14 (k0_pay13 (k0_pay7 x0 x2) (View.ld x3 (Rect.unit ![0, 3072] ![1024, 1024] inb_S1024x6144_S1024x1024_0_3072)))
theorem uTile_def (x0 : Vec Ideal S1x512x1024 .f32) (x2 : Vec Ideal S1x1024 .f32) (x3 : Vec Ideal S1024x6144 .bf16) :
  k0_pay11 (k0_pay9 x0 x2 (View.ld x3 (Rect.unit ![0, 1024] ![1024, 1024] inb_S1024x6144_S1024x1024_0_1024)))
    (k0_pay10 x0 x2 (View.ld x3 (Rect.unit ![0, 2048] ![1024, 1024] inb_S1024x6144_S1024x1024_0_2048))) = uTile x0 x2 x3 := rfl
theorem vTile_def (x0 : Vec Ideal S1x512x1024 .f32) (x2 : Vec Ideal S1x1024 .f32) (x3 : Vec Ideal S1024x6144 .bf16) :
  k0_pay14 (k0_pay13 (k0_pay7 x0 x2) (View.ld x3 (Rect.unit ![0, 3072] ![1024, 1024] inb_S1024x6144_S1024x1024_0_3072))) = vTile x0 x2 x3 := rfl

/-- The scratch of convolution inputs: the halo below the tile's rows. -/
def EU (h : Vec Ideal S1x8x1024 .f32) (tl : Vec Ideal S1x512x1024 .f32) : Vec Ideal S1x520x1024 .f32 :=
  View.canon [⟨Rect.unit ![0, 8, 0] ![1, 512, 1024] inb_S1x520x1024_S1x512x1024_0_8_0, tl⟩,
    ⟨Rect.unit ![0, 0, 0] ![1, 8, 1024] inb_S1x520x1024_S1x8x1024_0_0_0, h⟩]

/-- The scratch of pooling inputs: the halo below the tile's rows. -/
def EV (h : Vec Ideal S1x16x1024 .f32) (tl : Vec Ideal S1x512x1024 .f32) : Vec Ideal S1x528x1024 .f32 :=
  View.canon [⟨Rect.unit ![0, 16, 0] ![1, 512, 1024] inb_S1x528x1024_S1x512x1024_0_16_0, tl⟩,
    ⟨Rect.unit ![0, 0, 0] ![1, 16, 1024] inb_S1x528x1024_S1x16x1024_0_0_0, h⟩]
theorem EU_def (h : Vec Ideal S1x8x1024 .f32) (tl : Vec Ideal S1x512x1024 .f32) :
  View.canon [⟨Rect.unit ![0, 8, 0] ![1, 512, 1024] inb_S1x520x1024_S1x512x1024_0_8_0, tl⟩,
    ⟨Rect.unit ![0, 0, 0] ![1, 8, 1024] inb_S1x520x1024_S1x8x1024_0_0_0, h⟩] = EU h tl := rfl
theorem EV_def (h : Vec Ideal S1x16x1024 .f32) (tl : Vec Ideal S1x512x1024 .f32) :
  View.canon [⟨Rect.unit ![0, 16, 0] ![1, 512, 1024] inb_S1x528x1024_S1x512x1024_0_16_0, tl⟩,
    ⟨Rect.unit ![0, 0, 0] ![1, 16, 1024] inb_S1x528x1024_S1x16x1024_0_0_0, h⟩] = EV h tl := rfl

/-- A block of 1024 columns of the input projection. -/
def LW (x : Vec Ideal S1024x6144 .bf16) (b : ℕ) {h : ∀ d, (![0, b] : Fin 2 → ℕ) d + S1024x1024.size d ≤ S1024x6144.size d} : Vec Ideal S1024x1024 .bf16 := View.ld x (Rect.unit (s := S1024x6144) ![0, b] ![1024, 1024] h)
theorem LW_def (x : Vec Ideal S1024x6144 .bf16) (b : ℕ) {h : ∀ d, (![0, b] : Fin 2 → ℕ) d + S1024x1024.size d ≤ S1024x6144.size d} : View.ld x (Rect.unit (s := S1024x6144) ![0, b] ![1024, 1024] h) = LW x b (h := h) := rfl

/-- A block of columns of the first MLP matrix. -/
def LUp (x : Vec Ideal S1024x4096 .bf16) (b : ℕ) {h : ∀ d, (![0, b] : Fin 2 → ℕ) d + S1024x1024.size d ≤ S1024x4096.size d} : Vec Ideal S1024x1024 .bf16 := View.ld x (Rect.unit (s := S1024x4096) ![0, b] ![1024, 1024] h)
theorem LUp_def (x : Vec Ideal S1024x4096 .bf16) (b : ℕ) {h : ∀ d, (![0, b] : Fin 2 → ℕ) d + S1024x1024.size d ≤ S1024x4096.size d} : View.ld x (Rect.unit (s := S1024x4096) ![0, b] ![1024, 1024] h) = LUp x b (h := h) := rfl

/-- A block of rows of the second MLP matrix. -/
def LDn (x : Vec Ideal S4096x1024 .bf16) (b : ℕ) {h : ∀ d, (![b, 0] : Fin 2 → ℕ) d + S1024x1024.size d ≤ S4096x1024.size d} : Vec Ideal S1024x1024 .bf16 := View.ld x (Rect.unit (s := S4096x1024) ![b, 0] ![1024, 1024] h)
theorem LDn_def (x : Vec Ideal S4096x1024 .bf16) (b : ℕ) {h : ∀ d, (![b, 0] : Fin 2 → ℕ) d + S1024x1024.size d ≤ S4096x1024.size d} : View.ld x (Rect.unit (s := S4096x1024) ![b, 0] ![1024, 1024] h) = LDn x b (h := h) := rfl

/-- One group's pooling matrix. -/
def LP (x : Vec Ideal S4x256x256 .bf16) (b : ℕ) {h : ∀ d, (![b, 0, 0] : Fin 3 → ℕ) d + S1x256x256.size d ≤ S4x256x256.size d} : Vec Ideal S1x256x256 .bf16 := View.ld x (Rect.unit (s := S4x256x256) ![b, 0, 0] ![1, 256, 256] h)
theorem LP_def (x : Vec Ideal S4x256x256 .bf16) (b : ℕ) {h : ∀ d, (![b, 0, 0] : Fin 3 → ℕ) d + S1x256x256.size d ≤ S4x256x256.size d} : View.ld x (Rect.unit (s := S4x256x256) ![b, 0, 0] ![1, 256, 256] h) = LP x b (h := h) := rfl

/-- The pooling inputs a number of rows back, one group's columns. -/
def LV (x : Vec Ideal S1x528x1024 .f32) (a b : ℕ) {h : ∀ d, (![0, a, b] : Fin 3 → ℕ) d + S1x512x256.size d ≤ S1x528x1024.size d} : Vec Ideal S1x512x256 .f32 := View.ld x (Rect.unit (s := S1x528x1024) ![0, a, b] ![1, 512, 256] h)
theorem LV_def (x : Vec Ideal S1x528x1024 .f32) (a b : ℕ) {h : ∀ d, (![0, a, b] : Fin 3 → ℕ) d + S1x512x256.size d ≤ S1x528x1024.size d} : View.ld x (Rect.unit (s := S1x528x1024) ![0, a, b] ![1, 512, 256] h) = LV x a b (h := h) := rfl

/-- The convolution inputs a number of rows back. -/
def LU (x : Vec Ideal S1x520x1024 .f32) (a : ℕ) {h : ∀ d, (![0, a, 0] : Fin 3 → ℕ) d + S1x512x1024.size d ≤ S1x520x1024.size d} : Vec Ideal S1x512x1024 .f32 := View.ld x (Rect.unit (s := S1x520x1024) ![0, a, 0] ![1, 512, 1024] h)
theorem LU_def (x : Vec Ideal S1x520x1024 .f32) (a : ℕ) {h : ∀ d, (![0, a, 0] : Fin 3 → ℕ) d + S1x512x1024.size d ≤ S1x520x1024.size d} : View.ld x (Rect.unit (s := S1x520x1024) ![0, a, 0] ![1, 512, 1024] h) = LU x a (h := h) := rfl

/-- The convolution branch of the tile. -/
def YA (x0 : Vec Ideal S1x512x1024 .f32) (x2 : Vec Ideal S1x1024 .f32) (x3 : Vec Ideal S1024x6144 .bf16) (x4 : Vec Ideal S3x1024 .f32) (x5 : Vec Ideal S1024x1024 .bf16) (U : Vec Ideal S1x520x1024 .f32) : Vec Ideal S512x1024 .f32 :=
  k0_pay12 (k0_pay8 x0 x2 (LW x3 0 (h := inb_S1024x6144_S1024x1024_0_0))) (LU U 6 (h := inb_S1x520x1024_S1x512x1024_0_6_0))
  (View.ld x4 (Rect.unit ![0, 0] ![1, 1024] inb_S3x1024_S1x1024_0_0)) (LU U 7 (h := inb_S1x520x1024_S1x512x1024_0_7_0))
  (View.ld x4 (Rect.unit ![1, 0] ![1, 1024] inb_S3x1024_S1x1024_1_0)) (LU U 8 (h := inb_S1x520x1024_S1x512x1024_0_8_0))
  (View.ld x4 (Rect.unit ![2, 0] ![1, 1024] inb_S3x1024_S1x1024_2_0)) x5

/-- The pooling branch of the tile. -/
def YB (x6 : Vec Ideal S4x256x256 .bf16) (x7 : Vec Ideal S1x1024 .f32) (w : BitVec 32) (V : Vec Ideal S1x528x1024 .f32) : Vec Ideal S512x1024 .f32 :=
  k0_pay24 (k0_pay15 w)
  (k0_pay16 w (LV V 16 0 (h := inb_S1x528x1024_S1x512x256_0_16_0)) (LV V 15 0 (h := inb_S1x528x1024_S1x512x256_0_15_0)) (LP x6 0 (h := inb_S4x256x256_S1x256x256_0_0_0)))
  (k0_pay20 (LV V 16 256 (h := inb_S1x528x1024_S1x512x256_0_16_256)) (k0_pay17 (LV V 16 256 (h := inb_S1x528x1024_S1x512x256_0_16_256)) (LV V 15 256 (h := inb_S1x528x1024_S1x512x256_0_15_256)) (LV V 14 256 (h := inb_S1x528x1024_S1x512x256_0_14_256)) (LV V 13 256 (h := inb_S1x528x1024_S1x512x256_0_13_256))) (k0_pay18 w) k0_pay19 (LP x6 1 (h := inb_S4x256x256_S1x256x256_1_0_0)))
  (k0_pay22 (k0_pay21 (k0_pay15 w) (LV V 16 512 (h := inb_S1x528x1024_S1x512x256_0_16_512)) (LV V 15 512 (h := inb_S1x528x1024_S1x512x256_0_15_512)) (LV V 14 512 (h := inb_S1x528x1024_S1x512x256_0_14_512)) (LV V 13 512 (h := inb_S1x528x1024_S1x512x256_0_13_512)) (LV V 12 512 (h := inb_S1x528x1024_S1x512x256_0_12_512)) (LV V 11 512 (h := inb_S1x528x1024_S1x512x256_0_11_512)) (LV V 10 512 (h := inb_S1x528x1024_S1x512x256_0_10_512)) (LV V 9 512 (h := inb_S1x528x1024_S1x512x256_0_9_512))) (LP x6 2 (h := inb_S4x256x256_S1x256x256_2_0_0)))
  (LV V 16 768 (h := inb_S1x528x1024_S1x512x256_0_16_768))
  (k0_pay23 (LV V 16 768 (h := inb_S1x528x1024_S1x512x256_0_16_768)) (LV V 15 768 (h := inb_S1x528x1024_S1x512x256_0_15_768)) (LV V 14 768 (h := inb_S1x528x1024_S1x512x256_0_14_768)) (LV V 13 768 (h := inb_S1x528x1024_S1x512x256_0_13_768)) (LV V 12 768 (h := inb_S1x528x1024_S1x512x256_0_12_768)) (LV V 11 768 (h := inb_S1x528x1024_S1x512x256_0_11_768)) (LV V 10 768 (h := inb_S1x528x1024_S1x512x256_0_10_768)) (LV V 9 768 (h := inb_S1x528x1024_S1x512x256_0_9_768)) (LV V 8 768 (h := inb_S1x528x1024_S1x512x256_0_8_768)) (LV V 7 768 (h := inb_S1x528x1024_S1x512x256_0_7_768)))
  (LV V 6 768 (h := inb_S1x528x1024_S1x512x256_0_6_768)) (LV V 5 768 (h := inb_S1x528x1024_S1x512x256_0_5_768)) (LV V 4 768 (h := inb_S1x528x1024_S1x512x256_0_4_768)) (LV V 3 768 (h := inb_S1x528x1024_S1x512x256_0_3_768)) (LV V 2 768 (h := inb_S1x528x1024_S1x512x256_0_2_768)) (LV V 1 768 (h := inb_S1x528x1024_S1x512x256_0_1_768)) (LP x6 3 (h := inb_S4x256x256_S1x256x256_3_0_0)) x7
theorem YA_def (x0 : Vec Ideal S1x512x1024 .f32) (x2 : Vec Ideal S1x1024 .f32) (x3 : Vec Ideal S1024x6144 .bf16) (x4 : Vec Ideal S3x1024 .f32) (x5 : Vec Ideal S1024x1024 .bf16) (U : Vec Ideal S1x520x1024 .f32) :
  k0_pay12 (k0_pay8 x0 x2 (LW x3 0 (h := inb_S1024x6144_S1024x1024_0_0))) (LU U 6 (h := inb_S1x520x1024_S1x512x1024_0_6_0))
  (View.ld x4 (Rect.unit ![0, 0] ![1, 1024] inb_S3x1024_S1x1024_0_0)) (LU U 7 (h := inb_S1x520x1024_S1x512x1024_0_7_0))
  (View.ld x4 (Rect.unit ![1, 0] ![1, 1024] inb_S3x1024_S1x1024_1_0)) (LU U 8 (h := inb_S1x520x1024_S1x512x1024_0_8_0))
  (View.ld x4 (Rect.unit ![2, 0] ![1, 1024] inb_S3x1024_S1x1024_2_0)) x5 = YA x0 x2 x3 x4 x5 U := rfl
theorem YB_def (x6 : Vec Ideal S4x256x256 .bf16) (x7 : Vec Ideal S1x1024 .f32) (w : BitVec 32) (V : Vec Ideal S1x528x1024 .f32) :
  k0_pay24 (k0_pay15 w)
  (k0_pay16 w (LV V 16 0 (h := inb_S1x528x1024_S1x512x256_0_16_0)) (LV V 15 0 (h := inb_S1x528x1024_S1x512x256_0_15_0)) (LP x6 0 (h := inb_S4x256x256_S1x256x256_0_0_0)))
  (k0_pay20 (LV V 16 256 (h := inb_S1x528x1024_S1x512x256_0_16_256)) (k0_pay17 (LV V 16 256 (h := inb_S1x528x1024_S1x512x256_0_16_256)) (LV V 15 256 (h := inb_S1x528x1024_S1x512x256_0_15_256)) (LV V 14 256 (h := inb_S1x528x1024_S1x512x256_0_14_256)) (LV V 13 256 (h := inb_S1x528x1024_S1x512x256_0_13_256))) (k0_pay18 w) k0_pay19 (LP x6 1 (h := inb_S4x256x256_S1x256x256_1_0_0)))
  (k0_pay22 (k0_pay21 (k0_pay15 w) (LV V 16 512 (h := inb_S1x528x1024_S1x512x256_0_16_512)) (LV V 15 512 (h := inb_S1x528x1024_S1x512x256_0_15_512)) (LV V 14 512 (h := inb_S1x528x1024_S1x512x256_0_14_512)) (LV V 13 512 (h := inb_S1x528x1024_S1x512x256_0_13_512)) (LV V 12 512 (h := inb_S1x528x1024_S1x512x256_0_12_512)) (LV V 11 512 (h := inb_S1x528x1024_S1x512x256_0_11_512)) (LV V 10 512 (h := inb_S1x528x1024_S1x512x256_0_10_512)) (LV V 9 512 (h := inb_S1x528x1024_S1x512x256_0_9_512))) (LP x6 2 (h := inb_S4x256x256_S1x256x256_2_0_0)))
  (LV V 16 768 (h := inb_S1x528x1024_S1x512x256_0_16_768))
  (k0_pay23 (LV V 16 768 (h := inb_S1x528x1024_S1x512x256_0_16_768)) (LV V 15 768 (h := inb_S1x528x1024_S1x512x256_0_15_768)) (LV V 14 768 (h := inb_S1x528x1024_S1x512x256_0_14_768)) (LV V 13 768 (h := inb_S1x528x1024_S1x512x256_0_13_768)) (LV V 12 768 (h := inb_S1x528x1024_S1x512x256_0_12_768)) (LV V 11 768 (h := inb_S1x528x1024_S1x512x256_0_11_768)) (LV V 10 768 (h := inb_S1x528x1024_S1x512x256_0_10_768)) (LV V 9 768 (h := inb_S1x528x1024_S1x512x256_0_9_768)) (LV V 8 768 (h := inb_S1x528x1024_S1x512x256_0_8_768)) (LV V 7 768 (h := inb_S1x528x1024_S1x512x256_0_7_768)))
  (LV V 6 768 (h := inb_S1x528x1024_S1x512x256_0_6_768)) (LV V 5 768 (h := inb_S1x528x1024_S1x512x256_0_5_768)) (LV V 4 768 (h := inb_S1x528x1024_S1x512x256_0_4_768)) (LV V 3 768 (h := inb_S1x528x1024_S1x512x256_0_3_768)) (LV V 2 768 (h := inb_S1x528x1024_S1x512x256_0_2_768)) (LV V 1 768 (h := inb_S1x528x1024_S1x512x256_0_1_768)) (LP x6 3 (h := inb_S4x256x256_S1x256x256_3_0_0)) x7 = YB x6 x7 w V := rfl

/-- The tile's output rows. -/
def YO (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) : Vec Ideal S1x512x1024 .f32 :=
  k0_pay1 (k0_pay31
    (k0_pay29 (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9) (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0))) (LUp x10 1024 (h := inb_S1024x4096_S1024x1024_0_1024)) (LDn x11 1024 (h := inb_S4096x1024_S1024x1024_1024_0)) (LUp x10 2048 (h := inb_S1024x4096_S1024x1024_0_2048)) (LDn x11 2048 (h := inb_S4096x1024_S1024x1024_2048_0)) (LUp x10 3072 (h := inb_S1024x4096_S1024x1024_0_3072)) (LDn x11 3072 (h := inb_S4096x1024_S1024x1024_3072_0)))
    x12
    (k0_pay30 (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9) (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0))) (LUp x10 1024 (h := inb_S1024x4096_S1024x1024_0_1024)) (LDn x11 1024 (h := inb_S4096x1024_S1024x1024_1024_0)) (LUp x10 2048 (h := inb_S1024x4096_S1024x1024_0_2048)) (LDn x11 2048 (h := inb_S4096x1024_S1024x1024_2048_0)) (LUp x10 3072 (h := inb_S1024x4096_S1024x1024_0_3072)) (LDn x11 3072 (h := inb_S4096x1024_S1024x1024_3072_0)))
    (FloatOps.ofBits FTy.f32 1149239296#32) x13 x1 x14 x15)

theorem YO_def (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) :
  k0_pay1 (k0_pay31
    (k0_pay29 (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9) (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0))) (LUp x10 1024 (h := inb_S1024x4096_S1024x1024_0_1024)) (LDn x11 1024 (h := inb_S4096x1024_S1024x1024_1024_0)) (LUp x10 2048 (h := inb_S1024x4096_S1024x1024_0_2048)) (LDn x11 2048 (h := inb_S4096x1024_S1024x1024_2048_0)) (LUp x10 3072 (h := inb_S1024x4096_S1024x1024_0_3072)) (LDn x11 3072 (h := inb_S4096x1024_S1024x1024_3072_0)))
    x12
    (k0_pay30 (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9) (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0))) (LUp x10 1024 (h := inb_S1024x4096_S1024x1024_0_1024)) (LDn x11 1024 (h := inb_S4096x1024_S1024x1024_1024_0)) (LUp x10 2048 (h := inb_S1024x4096_S1024x1024_0_2048)) (LDn x11 2048 (h := inb_S4096x1024_S1024x1024_2048_0)) (LUp x10 3072 (h := inb_S1024x4096_S1024x1024_0_3072)) (LDn x11 3072 (h := inb_S4096x1024_S1024x1024_3072_0)))
    (FloatOps.ofBits FTy.f32 1149239296#32) x13 x1 x14 x15) = YO x0 x1 x2 x3 x4 x5 x6 x7 x8 x9 x10 x11 x12 x13 x14 x15 w U V := rfl

end Cert.KernelIdeal.Blk
-- ==== Proof.Read1.lean ====
module

public import proofs.«01_k».proof.Proof.Blk1
public import proofs.«01_k».proof.Proof.Spec

@[expose] public section

/-! The prompt kernel's named parts, read row by row as the layer's mathematics. -/

set_option maxRecDepth 16384

noncomputable section

open Idealize.ShloMosaic Idealize.ShloMosaic.TcCoe Idealize.SL.Sem
open Cert.Spec

namespace Cert.KernelIdeal.Blk

open Cert.KernelIdeal Cert.KernelIdeal.Gen

/-- The weights as a step's operands hold them. -/
def wts (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) : Wts where
  gMix k := x2 (ix2 0 k)
  wIn k n := x3 (ix2 k n)
  wConv j k := x4 (ix2 j k)
  wOc k n := x5 (ix2 k n)
  wPool g a b := x6 (ix3 g a b)
  pSc k := x7 (ix2 0 k)
  wO k n := x8 (ix2 k n)
  gMlp k := x9 (ix2 0 k)
  wUp k n := x10 (ix2 k n)
  wDown k n := x11 (ix2 k n)
  gPle k := x12 (ix2 0 k)
  wPg k n := x13 (ix2 k n)
  wPp k n := x14 (ix2 k n)
  gFin k := x15 (ix2 0 k)

theorem LW_at (x : Vec Ideal S1024x6144 .bf16) (b : ℕ) {h : ∀ d, (![0, b] : Fin 2 → ℕ) d + S1024x1024.size d ≤ S1024x6144.size d}
    (k n : Fin 1024) : LW x b (h := h) (ix2 k n) = x (ix2 k ⟨b + n.val, by have := h 1; simp at this; omega⟩) := by
  unfold LW
  rw [View.ld_apply]
  congr 1
  funext a
  fin_cases a <;> ext <;> simp

theorem LW_at0 (x : Vec Ideal S1024x6144 .bf16) {h : ∀ d, (![0, 0] : Fin 2 → ℕ) d + S1024x1024.size d ≤ S1024x6144.size d}
    (k n : Fin 1024) : LW x 0 (h := h) (ix2 k n) = x (ix2 k ⟨n.val, by omega⟩) := by
  unfold LW
  rw [View.ld_apply]
  congr 1
  funext a
  fin_cases a <;> ext <;> simp

theorem LUp_at (x : Vec Ideal S1024x4096 .bf16) (b : ℕ) {h : ∀ d, (![0, b] : Fin 2 → ℕ) d + S1024x1024.size d ≤ S1024x4096.size d}
    (k n : Fin 1024) : LUp x b (h := h) (ix2 k n) = x (ix2 k ⟨b + n.val, by have := h 1; simp at this; omega⟩) := by
  unfold LUp
  rw [View.ld_apply]
  congr 1
  funext a
  fin_cases a <;> ext <;> simp

theorem LUp_at0 (x : Vec Ideal S1024x4096 .bf16) {h : ∀ d, (![0, 0] : Fin 2 → ℕ) d + S1024x1024.size d ≤ S1024x4096.size d}
    (k n : Fin 1024) : LUp x 0 (h := h) (ix2 k n) = x (ix2 k ⟨n.val, by omega⟩) := by
  unfold LUp
  rw [View.ld_apply]
  congr 1
  funext a
  fin_cases a <;> ext <;> simp

theorem LDn_at (x : Vec Ideal S4096x1024 .bf16) (b : ℕ) {h : ∀ d, (![b, 0] : Fin 2 → ℕ) d + S1024x1024.size d ≤ S4096x1024.size d}
    (k n : Fin 1024) : LDn x b (h := h) (ix2 k n) = x (ix2 ⟨b + k.val, by have := h 0; simp at this; omega⟩ n) := by
  unfold LDn
  rw [View.ld_apply]
  congr 1
  funext a
  fin_cases a <;> ext <;> simp

theorem LDn_at0 (x : Vec Ideal S4096x1024 .bf16) {h : ∀ d, (![0, 0] : Fin 2 → ℕ) d + S1024x1024.size d ≤ S4096x1024.size d}
    (k n : Fin 1024) : LDn x 0 (h := h) (ix2 k n) = x (ix2 ⟨k.val, by omega⟩ n) := by
  unfold LDn
  rw [View.ld_apply]
  congr 1
  funext a
  fin_cases a <;> ext <;> simp

theorem LP_at (x : Vec Ideal S4x256x256 .bf16) (b : ℕ) {h : ∀ d, (![b, 0, 0] : Fin 3 → ℕ) d + S1x256x256.size d ≤ S4x256x256.size d}
    (k n : Fin 256) : LP x b (h := h) (ix3 0 k n) = x (ix3 ⟨b, by have := h 0; simp at this; omega⟩ k n) := by
  unfold LP
  rw [View.ld_apply]
  congr 1
  funext a
  fin_cases a <;> ext <;> simp

theorem conv_at (x : Vec Ideal S3x1024 .f32) (j : Fin 3) {h : ∀ d, (![j.val, 0] : Fin 2 → ℕ) d + S1x1024.size d ≤ S3x1024.size d}
    (k : Fin 1024) : (View.ld x (Rect.unit (s := S3x1024) ![j.val, 0] ![1, 1024] h) : Vec Ideal S1x1024 .f32) (ix2 0 k) = x (ix2 j k) := by
  rw [View.ld_apply]
  congr 1
  funext a
  fin_cases a <;> ext <;> simp

/-- The scratch's row `j` positions above row `r` of the tile. -/
def usOf (U : Vec Ideal S1x520x1024 .f32) (r : Fin 512) (j : ℕ) (d : Fin 1024) : EReal := U (ix3 0 ⟨8 + r.val - j, by omega⟩ d)

/-- The scratch's row `j` positions above row `r` of the tile. -/
def vsOf (V : Vec Ideal S1x528x1024 .f32) (r : Fin 512) (j : ℕ) (d : Fin 1024) : EReal := V (ix3 0 ⟨16 + r.val - j, by omega⟩ d)

/-- A row's position as the kernel computes it. -/
def posOf (w : BitVec 32) (r : Fin 512) : EReal := FloatOps.sitofp (F := Ideal) .f32 (IntOp.addi w (BitVec.ofNat 32 r.val))

theorem LU_at (x : Vec Ideal S1x520x1024 .f32) (a : ℕ) {h : ∀ d, (![0, a, 0] : Fin 3 → ℕ) d + S1x512x1024.size d ≤ S1x520x1024.size d}
    (r : Fin 512) (n : Fin 1024) : LU x a (h := h) (ix3 0 r n) = usOf x r (8 - a) n := by
  have h1 := h 1
  simp at h1
  unfold LU usOf
  rw [View.ld_apply]
  congr 1
  funext d
  fin_cases d <;> ext <;> simp
  omega

theorem LV_at (x : Vec Ideal S1x528x1024 .f32) (a b : ℕ) {h : ∀ d, (![0, a, b] : Fin 3 → ℕ) d + S1x512x256.size d ≤ S1x528x1024.size d}
    (r : Fin 512) (n : Fin 256) : LV x a b (h := h) (ix3 0 r n) = vsOf x r (16 - a) ⟨b + n.val, by have := h 2; simp at this; omega⟩ := by
  have h1 := h 1
  simp at h1
  unfold LV vsOf
  rw [View.ld_apply]
  congr 1
  funext d
  fin_cases d <;> ext <;> simp
  omega

theorem EU_hi (h : Vec Ideal S1x8x1024 .f32) (tl : Vec Ideal S1x512x1024 .f32) (r : Fin 512) (d : Fin 1024) :
    EU h tl (ix3 0 ⟨8 + r.val, by omega⟩ d) = tl (ix3 0 r d) := by
  unfold EU
  rw [show (ix3 0 ⟨8 + r.val, by omega⟩ d : S1x520x1024.Idx) = (Rect.unit (s := S1x520x1024) ![0, 8, 0] ![1, 512, 1024] inb_S1x520x1024_S1x512x1024_0_8_0).emb (ix3 0 r d) from by
    funext a
    fin_cases a <;> ext <;> simp]
  rw [View.canon_cons_emb]

theorem EU_lo (h : Vec Ideal S1x8x1024 .f32) (tl : Vec Ideal S1x512x1024 .f32) (r : Fin 8) (d : Fin 1024) :
    EU h tl (ix3 0 ⟨r.val, by omega⟩ d) = h (ix3 0 r d) := by
  unfold EU
  rw [View.canon_cons_of_not_mem]
  · rw [show (ix3 0 ⟨r.val, by omega⟩ d : S1x520x1024.Idx) = (Rect.unit (s := S1x520x1024) ![0, 0, 0] ![1, 8, 1024] inb_S1x520x1024_S1x8x1024_0_0_0).emb (ix3 0 r d) from by
      funext a
      fin_cases a <;> ext <;> simp]
    rw [View.canon_cons_emb]
  · intro hm
    have := (Rect.mem_set_unit (inb := inb_S1x520x1024_S1x512x1024_0_8_0)).1 hm 1
    simp at this
    omega

theorem EV_hi (h : Vec Ideal S1x16x1024 .f32) (tl : Vec Ideal S1x512x1024 .f32) (r : Fin 512) (d : Fin 1024) :
    EV h tl (ix3 0 ⟨16 + r.val, by omega⟩ d) = tl (ix3 0 r d) := by
  unfold EV
  rw [show (ix3 0 ⟨16 + r.val, by omega⟩ d : S1x528x1024.Idx) = (Rect.unit (s := S1x528x1024) ![0, 16, 0] ![1, 512, 1024] inb_S1x528x1024_S1x512x1024_0_16_0).emb (ix3 0 r d) from by
    funext a
    fin_cases a <;> ext <;> simp]
  rw [View.canon_cons_emb]

theorem EV_lo (h : Vec Ideal S1x16x1024 .f32) (tl : Vec Ideal S1x512x1024 .f32) (r : Fin 16) (d : Fin 1024) :
    EV h tl (ix3 0 ⟨r.val, by omega⟩ d) = h (ix3 0 r d) := by
  unfold EV
  rw [View.canon_cons_of_not_mem]
  · rw [show (ix3 0 ⟨r.val, by omega⟩ d : S1x528x1024.Idx) = (Rect.unit (s := S1x528x1024) ![0, 0, 0] ![1, 16, 1024] inb_S1x528x1024_S1x16x1024_0_0_0).emb (ix3 0 r d) from by
      funext a
      fin_cases a <;> ext <;> simp]
    rw [View.canon_cons_emb]
  · intro hm
    have := (Rect.mem_set_unit (inb := inb_S1x528x1024_S1x512x1024_0_16_0)).1 hm 1
    simp at this
    omega

end Cert.KernelIdeal.Blk
-- ==== Proof.Ops1.lean ====
module

public import Idealize.ShloMosaic.Lib.Pipeline.ValueKit
public import Idealize.ShloMosaic.Lib.Claim
public import proofs.«01_k».proof.Proof.Gen.KernelIdeal.Value
public import proofs.«01_k».proof.Proof.Read1

@[expose] public section

/-! What a step's operands hold, read from the arguments. -/

set_option maxRecDepth 16384

noncomputable section

open Idealize.ShloMosaic Idealize.ShloMosaic.TcCoe Idealize.SL.Sem
open Idealize.ShloMosaic.Pipeline (Dat)
open Cert.Spec

namespace Cert.KernelIdeal.Blk

open Cert.KernelIdeal Cert.KernelIdeal.Gen

variable (m : (ℓ : Loc nD τ sig) → Buf (Elt Ideal) ℓ)

/-- The weights, read from the arguments. -/
def wK (c : Dev nD) : Wts where
  gMix k := (show FVec Ideal S1x1024 .f32 from m ((c : Thread nD τ).loc main_arg2)) (ix2 0 k)
  wIn k n := (show FVec Ideal S1x1024x6144 .f32 from m ((c : Thread nD τ).loc main_arg3)) (ix3 0 k n)
  wConv j k := (show FVec Ideal S1x3x1024 .f32 from m ((c : Thread nD τ).loc main_arg4)) (ix3 0 j k)
  wOc k n := (show FVec Ideal S1x1024x1024 .f32 from m ((c : Thread nD τ).loc main_arg5)) (ix3 0 k n)
  wPool g a b := (show FVec Ideal S1x4x256x256 .f32 from m ((c : Thread nD τ).loc main_arg6)) (ix4 0 g a b)
  pSc k := (show FVec Ideal S1x1024 .f32 from m ((c : Thread nD τ).loc main_arg7)) (ix2 0 k)
  wO k n := (show FVec Ideal S1x1024x1024 .f32 from m ((c : Thread nD τ).loc main_arg8)) (ix3 0 k n)
  gMlp k := (show FVec Ideal S1x1024 .f32 from m ((c : Thread nD τ).loc main_arg9)) (ix2 0 k)
  wUp k n := (show FVec Ideal S1x1024x4096 .f32 from m ((c : Thread nD τ).loc main_arg10)) (ix3 0 k n)
  wDown k n := (show FVec Ideal S1x4096x1024 .f32 from m ((c : Thread nD τ).loc main_arg11)) (ix3 0 k n)
  gPle k := (show FVec Ideal S1x1024 .f32 from m ((c : Thread nD τ).loc main_arg12)) (ix2 0 k)
  wPg k n := (show FVec Ideal S1x1024x1024 .f32 from m ((c : Thread nD τ).loc main_arg13)) (ix3 0 k n)
  wPp k n := (show FVec Ideal S1x256x1024 .f32 from m ((c : Thread nD τ).loc main_arg14)) (ix3 0 k n)
  gFin k := (show FVec Ideal S1024 .f32 from m ((c : Thread nD τ).loc main_arg15)) (ix1 k)

/-- The weights' windows sit at the origin at every point. -/
theorem idxW : ∀ t : Fin cfg0.N, win0_2.index t = ![0, 0] ∧ win0_3.index t = ![0, 0] ∧ win0_4.index t = ![0, 0] ∧ win0_5.index t = ![0, 0] ∧ win0_6.index t = ![0, 0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

theorem blk_gMix (c : Dev nD) (t : Fin cfg0.N) (k : Fin 1024) :
    (show Vec Ideal S1x1024 .f32 from iblk m c 2 t) (ix2 0 k) = (wK m c).gMix k := by
  unfold wK
  blk_simp [iblk, idxW t]
  entry_read
  pointwise
  blk_ext [idxW t]

theorem blk_wIn (c : Dev nD) (t : Fin cfg0.N) (k : Fin 1024) (n : Fin 6144) :
    (show Vec Ideal S1024x6144 .bf16 from iblk m c 3 t) (ix2 k n) = (wK m c).wIn k n := by
  unfold wK
  blk_simp [iblk, idxW t]
  entry_read
  pointwise
  blk_ext [idxW t]

theorem blk_wConv (c : Dev nD) (t : Fin cfg0.N) (j : Fin 3) (k : Fin 1024) :
    (show Vec Ideal S3x1024 .f32 from iblk m c 4 t) (ix2 j k) = (wK m c).wConv j k := by
  unfold wK
  blk_simp [iblk, idxW t]
  entry_read
  pointwise
  blk_ext [idxW t]

theorem blk_wOc (c : Dev nD) (t : Fin cfg0.N) (k n : Fin 1024) :
    (show Vec Ideal S1024x1024 .bf16 from iblk m c 5 t) (ix2 k n) = (wK m c).wOc k n := by
  unfold wK
  blk_simp [iblk, idxW t]
  entry_read
  pointwise
  blk_ext [idxW t]

theorem blk_wPool (c : Dev nD) (t : Fin cfg0.N) (g : Fin 4) (a b : Fin 256) :
    (show Vec Ideal S4x256x256 .bf16 from iblk m c 6 t) (ix3 g a b) = (wK m c).wPool g a b := by
  unfold wK
  blk_simp [iblk, idxW t]
  entry_read
  pointwise
  blk_ext [idxW t]

theorem blk_pSc (c : Dev nD) (t : Fin cfg0.N) (k : Fin 1024) :
    (show Vec Ideal S1x1024 .f32 from iblk m c 7 t) (ix2 0 k) = (wK m c).pSc k := by
  unfold wK
  blk_simp [iblk, idxW t]
  entry_read
  pointwise
  blk_ext [idxW t]

theorem blk_wO (c : Dev nD) (t : Fin cfg0.N) (k n : Fin 1024) :
    (show Vec Ideal S1024x1024 .bf16 from iblk m c 8 t) (ix2 k n) = (wK m c).wO k n := by
  unfold wK
  blk_simp [iblk, idxW t]
  entry_read
  pointwise
  blk_ext [idxW t]

theorem blk_gMlp (c : Dev nD) (t : Fin cfg0.N) (k : Fin 1024) :
    (show Vec Ideal S1x1024 .f32 from iblk m c 9 t) (ix2 0 k) = (wK m c).gMlp k := by
  unfold wK
  blk_simp [iblk, idxW t]
  entry_read
  pointwise
  blk_ext [idxW t]

theorem blk_wUp (c : Dev nD) (t : Fin cfg0.N) (k : Fin 1024) (n : Fin 4096) :
    (show Vec Ideal S1024x4096 .bf16 from iblk m c 10 t) (ix2 k n) = (wK m c).wUp k n := by
  unfold wK
  blk_simp [iblk, idxW t]
  entry_read
  pointwise
  blk_ext [idxW t]

theorem blk_wDown (c : Dev nD) (t : Fin cfg0.N) (k : Fin 4096) (n : Fin 1024) :
    (show Vec Ideal S4096x1024 .bf16 from iblk m c 11 t) (ix2 k n) = (wK m c).wDown k n := by
  unfold wK
  blk_simp [iblk, idxW t]
  entry_read
  pointwise
  blk_ext [idxW t]

theorem blk_gPle (c : Dev nD) (t : Fin cfg0.N) (k : Fin 1024) :
    (show Vec Ideal S1x1024 .f32 from iblk m c 12 t) (ix2 0 k) = (wK m c).gPle k := by
  unfold wK
  blk_simp [iblk, idxW t]
  entry_read
  pointwise
  blk_ext [idxW t]

theorem blk_wPg (c : Dev nD) (t : Fin cfg0.N) (k n : Fin 1024) :
    (show Vec Ideal S1024x1024 .bf16 from iblk m c 13 t) (ix2 k n) = (wK m c).wPg k n := by
  unfold wK
  blk_simp [iblk, idxW t]
  entry_read
  pointwise
  blk_ext [idxW t]

theorem blk_wPp (c : Dev nD) (t : Fin cfg0.N) (k : Fin 256) (n : Fin 1024) :
    (show Vec Ideal S256x1024 .bf16 from iblk m c 14 t) (ix2 k n) = (wK m c).wPp k n := by
  unfold wK
  blk_simp [iblk, idxW t]
  entry_read
  pointwise
  blk_ext [idxW t]

theorem blk_gFin (c : Dev nD) (t : Fin cfg0.N) (k : Fin 1024) :
    (show Vec Ideal S1x1024 .f32 from iblk m c 15 t) (ix2 0 k) = (wK m c).gFin k := by
  unfold wK
  blk_simp [iblk, idxW t]
  entry_read
  pointwise
  blk_ext [idxW t]

theorem wts_ext (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (W : Wts)
    (h0 : ∀ k, x2 (ix2 0 k) = W.gMix k)
    (h1 : ∀ k n, x3 (ix2 k n) = W.wIn k n)
    (h2 : ∀ j k, x4 (ix2 j k) = W.wConv j k)
    (h3 : ∀ k n, x5 (ix2 k n) = W.wOc k n)
    (h4 : ∀ g a b, x6 (ix3 g a b) = W.wPool g a b)
    (h5 : ∀ k, x7 (ix2 0 k) = W.pSc k)
    (h6 : ∀ k n, x8 (ix2 k n) = W.wO k n)
    (h7 : ∀ k, x9 (ix2 0 k) = W.gMlp k)
    (h8 : ∀ k n, x10 (ix2 k n) = W.wUp k n)
    (h9 : ∀ k n, x11 (ix2 k n) = W.wDown k n)
    (h10 : ∀ k, x12 (ix2 0 k) = W.gPle k)
    (h11 : ∀ k n, x13 (ix2 k n) = W.wPg k n)
    (h12 : ∀ k n, x14 (ix2 k n) = W.wPp k n)
    (h13 : ∀ k, x15 (ix2 0 k) = W.gFin k) :
    wts x2 x3 x4 x5 x6 x7 x8 x9 x10 x11 x12 x13 x14 x15 = W := by
  cases W
  unfold wts
  simp only [h0, h1, h2, h3, h4, h5, h6, h7, h8, h9, h10, h11, h12, h13]

theorem wts_blk (c : Dev nD) (t : Fin cfg0.N) :
    wts (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = wK m c :=
  wts_ext _ _ _ _ _ _ _ _ _ _ _ _ _ _ _ (blk_gMix m c t) (blk_wIn m c t) (blk_wConv m c t) (blk_wOc m c t) (blk_wPool m c t) (blk_pSc m c t) (blk_wO m c t) (blk_gMlp m c t) (blk_wUp m c t) (blk_wDown m c t) (blk_gPle m c t) (blk_wPg m c t) (blk_wPp m c t) (blk_gFin m c t)

end Cert.KernelIdeal.Blk
-- ==== Proof.Mix1.lean ====
module

public import proofs.«01_k».proof.Proof.Read1

@[expose] public section

/-! The prompt kernel's two mixing branches, row by row. -/

set_option maxRecDepth 16384

noncomputable section

open Idealize.ShloMosaic Idealize.ShloMosaic.TcCoe Idealize.SL.Sem
open Cert.Spec

namespace Cert.KernelIdeal.Blk

open Cert.KernelIdeal Cert.KernelIdeal.Gen

/-- The tile's own row. -/
theorem pay6_row (x0 : Vec Ideal S1x512x1024 .f32) (r : Fin 512) (k : Fin 1024) :
    (k0_pay6 x0 : FVec Ideal S512x1024 .f32) (ix2 r k) = x0 (ix3 0 r k) := by
  unfold k0_pay6
  pointwise

/-- The norm of the tile. -/
theorem pay7_row (x0 : Vec Ideal S1x512x1024 .f32) (x2 : Vec Ideal S1x1024 .f32) (r : Fin 512) (k : Fin 1024) :
    (k0_pay7 x0 x2 : FVec Ideal S512x1024 .bf16) (ix2 r k) = nrm (fun k => x2 (ix2 0 k)) (fun k => x0 (ix3 0 r k)) k := by
  unfold k0_pay7
  pointwise
  simp only [pay6_row]
  rfl

theorem pay8_row (x0 : Vec Ideal S1x512x1024 .f32) (x2 : Vec Ideal S1x1024 .f32) (w : Vec Ideal S1024x1024 .bf16) (r : Fin 512) (d : Fin 1024) :
    (k0_pay8 x0 x2 w : FVec Ideal S512x1024 .f32) (ix2 r d) = ∑ k, nrm (fun k => x2 (ix2 0 k)) (fun k => x0 (ix3 0 r k)) k * w (ix2 k d) := by
  unfold k0_pay8
  pointwise
  simp only [pay7_row]

theorem pay9_row (x0 : Vec Ideal S1x512x1024 .f32) (x2 : Vec Ideal S1x1024 .f32) (w : Vec Ideal S1024x1024 .bf16) (r : Fin 512) (d : Fin 1024) :
    (k0_pay9 x0 x2 w : FVec Ideal S512x1024 .f32) (ix2 r d) = ∑ k, nrm (fun k => x2 (ix2 0 k)) (fun k => x0 (ix3 0 r k)) k * w (ix2 k d) := by
  unfold k0_pay9
  pointwise
  simp only [pay7_row]

theorem pay10_row (x0 : Vec Ideal S1x512x1024 .f32) (x2 : Vec Ideal S1x1024 .f32) (w : Vec Ideal S1024x1024 .bf16) (r : Fin 512) (d : Fin 1024) :
    (k0_pay10 x0 x2 w : FVec Ideal S512x1024 .f32) (ix2 r d) = ∑ k, nrm (fun k => x2 (ix2 0 k)) (fun k => x0 (ix3 0 r k)) k * w (ix2 k d) := by
  unfold k0_pay10
  pointwise
  simp only [pay7_row]

/-- The tile's convolution inputs. -/
theorem uTile_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (x0 : Vec Ideal S1x512x1024 .f32) (r : Fin 512) (d : Fin 1024) :
    uTile x0 x2 x3 (ix3 0 r d) = uRow (wts x2 x3 x4 x5 x6 x7 x8 x9 x10 x11 x12 x13 x14 x15) (fun k => x0 (ix3 0 r k)) d := by
  unfold uTile k0_pay11
  pointwise
  simp only [pay9_row, pay10_row, LW_def, LW_at]
  rfl

/-- The tile's pooling inputs. -/
theorem vTile_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (x0 : Vec Ideal S1x512x1024 .f32) (r : Fin 512) (d : Fin 1024) :
    vTile x0 x2 x3 (ix3 0 r d) = vRow (wts x2 x3 x4 x5 x6 x7 x8 x9 x10 x11 x12 x13 x14 x15) (fun k => x0 (ix3 0 r k)) d := by
  unfold vTile k0_pay14 k0_pay13
  pointwise
  simp only [pay7_row, LW_def, LW_at]
  rfl

/-- The position of a row. -/
theorem pay15_row (w : BitVec 32) (r : Fin 512) (x : Fin 256) :
    (k0_pay15 w : FVec Ideal S1x512x256 .f32) (ix3 0 r x) = posOf w r := by
  unfold k0_pay15
  pointwise
  rfl

/-- The convolution branch. -/
theorem YA_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (x0 : Vec Ideal S1x512x1024 .f32) (U : Vec Ideal S1x520x1024 .f32) (r : Fin 512) (d : Fin 1024) :
    YA x0 x2 x3 x4 x5 U (ix2 r d) = yaRow (wts x2 x3 x4 x5 x6 x7 x8 x9 x10 x11 x12 x13 x14 x15) (fun k => x0 (ix3 0 r k)) (usOf U r) d := by
  unfold YA k0_pay12
  pointwise
  unfold yaRow
  refine Finset.sum_congr rfl fun e _ => ?_
  simp only [pay8_row, LW_at0, LU_at]
  rfl

/-- Pooling group 0. -/
theorem grp0_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (V : Vec Ideal S1x528x1024 .f32) (r : Fin 512) (e : Fin 256) :
    (k0_pay16 w (LV V 16 0 (h := inb_S1x528x1024_S1x512x256_0_16_0)) (LV V 15 0 (h := inb_S1x528x1024_S1x512x256_0_15_0)) (LP x6 0 (h := inb_S4x256x256_S1x256x256_0_0_0)) : FVec Ideal S512x256 .f32) (ix2 r e) = pg (wts x2 x3 x4 x5 x6 x7 x8 x9 x10 x11 x12 x13 x14 x15) (vsOf V r) (posOf w r) 0 2 1073741824#32 e := by
  unfold k0_pay16
  pointwise
  unfold pg win
  have ez : ∀ a : EReal, 0 + a = a := zero_add
  refine Finset.sum_congr rfl fun x _ => ?_
  simp only [LV_at, LP_at, pay15_row, Finset.sum_range_succ, Finset.sum_range_zero, ez]
  rfl

/-- Pooling group 1. -/
theorem grp1_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (V : Vec Ideal S1x528x1024 .f32) (r : Fin 512) (e : Fin 256) :
    (k0_pay20 (LV V 16 256 (h := inb_S1x528x1024_S1x512x256_0_16_256)) (k0_pay17 (LV V 16 256 (h := inb_S1x528x1024_S1x512x256_0_16_256)) (LV V 15 256 (h := inb_S1x528x1024_S1x512x256_0_15_256)) (LV V 14 256 (h := inb_S1x528x1024_S1x512x256_0_14_256)) (LV V 13 256 (h := inb_S1x528x1024_S1x512x256_0_13_256))) (k0_pay18 w) k0_pay19 (LP x6 1 (h := inb_S4x256x256_S1x256x256_1_0_0)) : FVec Ideal S512x256 .f32) (ix2 r e) = pg (wts x2 x3 x4 x5 x6 x7 x8 x9 x10 x11 x12 x13 x14 x15) (vsOf V r) (posOf w r) 1 4 1082130432#32 e := by
  unfold k0_pay20 k0_pay17 k0_pay18 k0_pay19
  pointwise
  unfold pg win
  have ez : ∀ a : EReal, 0 + a = a := zero_add
  refine Finset.sum_congr rfl fun x _ => ?_
  simp only [LV_at, LP_at, pay15_row, Finset.sum_range_succ, Finset.sum_range_zero, ez]
  rfl

/-- Pooling group 2. -/
theorem grp2_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (V : Vec Ideal S1x528x1024 .f32) (r : Fin 512) (e : Fin 256) :
    (k0_pay22 (k0_pay21 (k0_pay15 w) (LV V 16 512 (h := inb_S1x528x1024_S1x512x256_0_16_512)) (LV V 15 512 (h := inb_S1x528x1024_S1x512x256_0_15_512)) (LV V 14 512 (h := inb_S1x528x1024_S1x512x256_0_14_512)) (LV V 13 512 (h := inb_S1x528x1024_S1x512x256_0_13_512)) (LV V 12 512 (h := inb_S1x528x1024_S1x512x256_0_12_512)) (LV V 11 512 (h := inb_S1x528x1024_S1x512x256_0_11_512)) (LV V 10 512 (h := inb_S1x528x1024_S1x512x256_0_10_512)) (LV V 9 512 (h := inb_S1x528x1024_S1x512x256_0_9_512))) (LP x6 2 (h := inb_S4x256x256_S1x256x256_2_0_0)) : FVec Ideal S512x256 .f32) (ix2 r e) = pg (wts x2 x3 x4 x5 x6 x7 x8 x9 x10 x11 x12 x13 x14 x15) (vsOf V r) (posOf w r) 2 8 1090519040#32 e := by
  unfold k0_pay22 k0_pay21
  pointwise
  unfold pg win
  have ez : ∀ a : EReal, 0 + a = a := zero_add
  refine Finset.sum_congr rfl fun x _ => ?_
  simp only [LV_at, LP_at, pay15_row, Finset.sum_range_succ, Finset.sum_range_zero, ez]
  rfl

/-- The pooling branch. -/
theorem YB_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (V : Vec Ideal S1x528x1024 .f32) (r : Fin 512) (d : Fin 1024) :
    YB x6 x7 w V (ix2 r d) = ybRow (wts x2 x3 x4 x5 x6 x7 x8 x9 x10 x11 x12 x13 x14 x15) (vsOf V r) (posOf w r) d := by
  have g0 := grp0_row x2 x3 x4 x5 x6 x7 x8 x9 x10 x11 x12 x13 x14 x15 w V r
  have g1 := grp1_row x2 x3 x4 x5 x6 x7 x8 x9 x10 x11 x12 x13 x14 x15 w V r
  have g2 := grp2_row x2 x3 x4 x5 x6 x7 x8 x9 x10 x11 x12 x13 x14 x15 w V r
  unfold YB k0_pay24
  pointwise
  unfold ybRow ybPre
  congr 1
  split
  · exact g0 _
  split
  · exact g1 _
  split
  · exact g2 _
  unfold k0_pay23
  pointwise
  unfold pg win
  have ez : ∀ a : EReal, 0 + a = a := zero_add
  refine Finset.sum_congr rfl fun x _ => ?_
  simp only [LV_at, LP_at, pay15_row, Finset.sum_range_succ, Finset.sum_range_zero, ez]
  rfl

end Cert.KernelIdeal.Blk
-- ==== Proof.Out1.lean ====
module

public import proofs.«01_k».proof.Proof.Mix1

@[expose] public section

/-! The prompt kernel's output tile, row by row. -/

set_option maxRecDepth 16384

noncomputable section

open Idealize.ShloMosaic Idealize.ShloMosaic.TcCoe Idealize.SL.Sem
open Cert.Spec

namespace Cert.KernelIdeal.Blk

open Cert.KernelIdeal Cert.KernelIdeal.Gen

/-- The residual row after the mixing branches. -/
theorem pay26_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) (x0 : Vec Ideal S1x512x1024 .f32) (r : Fin 512) (d : Fin 1024) :
    (k0_pay26 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 : FVec Ideal S512x1024 .f32) (ix2 r d) = (hRow (wts x2 x3 x4 x5 x6 x7 x8 x9 x10 x11 x12 x13 x14 x15) (fun k => x0 (ix3 0 r k)) (usOf U r) (vsOf V r) (posOf w r)) d := by
  unfold k0_pay26 k0_pay25
  pointwise
  simp only [pay6_row, pay7_row, YA_row x2 x3 x4 x5 x6 x7 x8 x9 x10 x11 x12 x13 x14 x15, YB_row x2 x3 x4 x5 x6 x7 x8 x9 x10 x11 x12 x13 x14 x15, LW_at]
  rfl

/-- Its norm. -/
theorem pay27_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) (x0 : Vec Ideal S1x512x1024 .f32) (r : Fin 512) (d : Fin 1024) :
    (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 : FVec Ideal S512x1024 .bf16) (ix2 r d) = nrm (wts x2 x3 x4 x5 x6 x7 x8 x9 x10 x11 x12 x13 x14 x15).gMlp (hRow (wts x2 x3 x4 x5 x6 x7 x8 x9 x10 x11 x12 x13 x14 x15) (fun k => x0 (ix3 0 r k)) (usOf U r) (vsOf V r) (posOf w r)) d := by
  unfold k0_pay27
  pointwise
  simp only [pay26_row x2 x3 x4 x5 x6 x7 x8 x9 x10 x11 x12 x13 x14 x15]
  rfl

/-- The MLP's first chunk added. -/
theorem pay28_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) (x0 : Vec Ideal S1x512x1024 .f32) (r : Fin 512) (d : Fin 1024) :
    (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0)) : FVec Ideal S512x1024 .f32) (ix2 r d)
      = (hRow (wts x2 x3 x4 x5 x6 x7 x8 x9 x10 x11 x12 x13 x14 x15) (fun k => x0 (ix3 0 r k)) (usOf U r) (vsOf V r) (posOf w r)) d + ∑ x : Fin 1024, mlpTerm (wts x2 x3 x4 x5 x6 x7 x8 x9 x10 x11 x12 x13 x14 x15) (hRow (wts x2 x3 x4 x5 x6 x7 x8 x9 x10 x11 x12 x13 x14 x15) (fun k => x0 (ix3 0 r k)) (usOf U r) (vsOf V r) (posOf w r)) d ⟨x.val, by omega⟩ := by
  unfold k0_pay28
  pointwise
  simp only [pay26_row x2 x3 x4 x5 x6 x7 x8 x9 x10 x11 x12 x13 x14 x15, pay27_row x2 x3 x4 x5 x6 x7 x8 x9 x10 x11 x12 x13 x14 x15, LUp_at0, LDn_at0]
  rfl

/-- The residual row after the MLP. -/
theorem pay29_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) (x0 : Vec Ideal S1x512x1024 .f32) (r : Fin 512) (d : Fin 1024) :
    (k0_pay29 (k0_pay27 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9) (k0_pay28 (k0_pay6 x0) (k0_pay7 x0 x2) (YA x0 x2 x3 x4 x5 U) (YB x6 x7 w V) (k0_pay25 (k0_pay7 x0 x2) (LW x3 4096 (h := inb_S1024x6144_S1024x1024_0_4096))) (LW x3 5120 (h := inb_S1024x6144_S1024x1024_0_5120)) x8 x9 (LUp x10 0 (h := inb_S1024x4096_S1024x1024_0_0)) (LDn x11 0 (h := inb_S4096x1024_S1024x1024_0_0))) (LUp x10 1024 (h := inb_S1024x4096_S1024x1024_0_1024)) (LDn x11 1024 (h := inb_S4096x1024_S1024x1024_1024_0)) (LUp x10 2048 (h := inb_S1024x4096_S1024x1024_0_2048)) (LDn x11 2048 (h := inb_S4096x1024_S1024x1024_2048_0)) (LUp x10 3072 (h := inb_S1024x4096_S1024x1024_0_3072)) (LDn x11 3072 (h := inb_S4096x1024_S1024x1024_3072_0)) : FVec Ideal S512x1024 .f32) (ix2 r d)
      = mlpRow (wts x2 x3 x4 x5 x6 x7 x8 x9 x10 x11 x12 x13 x14 x15) (hRow (wts x2 x3 x4 x5 x6 x7 x8 x9 x10 x11 x12 x13 x14 x15) (fun k => x0 (ix3 0 r k)) (usOf U r) (vsOf V r) (posOf w r)) d := by
  rw [mlpRow_chunks]
  unfold k0_pay29
  pointwise
  simp only [pay28_row x2 x3 x4 x5 x6 x7 x8 x9 x10 x11 x12 x13 x14 x15, pay27_row x2 x3 x4 x5 x6 x7 x8 x9 x10 x11 x12 x13 x14 x15, LUp_at, LDn_at]
  rfl

/-- The output tile. -/
theorem YO_row (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (w : BitVec 32) (U : Vec Ideal S1x520x1024 .f32) (V : Vec Ideal S1x528x1024 .f32) (x0 : Vec Ideal S1x512x1024 .f32) (x1 : Vec Ideal S1x512x256 .f32) (r : Fin 512) (d : Fin 1024) :
    YO x0 x1 x2 x3 x4 x5 x6 x7 x8 x9 x10 x11 x12 x13 x14 x15 w U V (ix3 0 r d) = yRow (wts x2 x3 x4 x5 x6 x7 x8 x9 x10 x11 x12 x13 x14 x15) (fun k => x0 (ix3 0 r k)) (usOf U r) (vsOf V r) (posOf w r) (fun q => x1 (ix3 0 r q)) d := by
  unfold YO k0_pay1 k0_pay31 k0_pay30
  pointwise
  simp only [pay29_row x2 x3 x4 x5 x6 x7 x8 x9 x10 x11 x12 x13 x14 x15]
  rfl

end Cert.KernelIdeal.Blk
-- ==== Proof.Blk1A.lean ====
module

public import proofs.«01_k».proof.Proof.Blk1

@[expose] public section

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen

set_option maxHeartbeats 2000000 in
/-- The convolution scratch after a step. -/
theorem sout0_A_0_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : cond0_0 i) (hc1 : ¬cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 = (EU (k0_pay2 (F := Ideal)) (uTile x0 x2 x3)) := by
  funext y
  frame_open
  frame_out
  simp only [EU_def, EV_def, uTile_def, vTile_def]

set_option maxHeartbeats 2000000 in
/-- The pooling scratch after a step. -/
theorem sout0_A_1_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : cond0_0 i) (hc1 : ¬cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 = (EV (k0_pay3 (F := Ideal)) (vTile x0 x2 x3)) := by
  funext y
  frame_open
  frame_out
  simp only [EU_def, EV_def, uTile_def, vTile_def]

set_option maxHeartbeats 2000000 in
/-- The output tile of a step. -/
theorem out0_A_16_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : cond0_0 i) (hc1 : ¬cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 = YO x0 x1 x2 x3 x4 x5 x6 x7 x8 x9 x10 x11 x12 x13 x14 x15 (Scalar.addi (0#32) (Scalar.muli (BitVec.ofNat 32 ↑(i 1)) 512#32)) (EU (k0_pay2 (F := Ideal)) (uTile x0 x2 x3)) (EV (k0_pay3 (F := Ideal)) (vTile x0 x2 x3)) := by
  funext y
  frame_open
  frame_out
  simp only [readCov_ld, EU_def, EV_def, uTile_def, vTile_def]
  simp only [LW_def, LV_def, LU_def, LUp_def, LDn_def, LP_def, YA_def, YB_def, YO_def]

end Cert.KernelIdeal.Blk
-- ==== Proof.Blk1B.lean ====
module

public import proofs.«01_k».proof.Proof.Blk1

@[expose] public section

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen

set_option maxHeartbeats 2000000 in
/-- The convolution scratch after a step. -/
theorem sout0_B_0_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = (EU (k0_pay4 (View.ld xs0 (Rect.unit ![0, 512, 0] ![1, 8, 1024] inb_S1x520x1024_S1x8x1024_0_512_0))) (uTile x0 x2 x3)) := by
  funext y
  frame_open
  frame_out
  simp only [EU_def, EV_def, uTile_def, vTile_def]

set_option maxHeartbeats 2000000 in
/-- The pooling scratch after a step. -/
theorem sout0_B_1_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = (EV (k0_pay5 (View.ld xs1 (Rect.unit ![0, 512, 0] ![1, 16, 1024] inb_S1x528x1024_S1x16x1024_0_512_0))) (vTile x0 x2 x3)) := by
  funext y
  frame_open
  frame_out
  simp only [EU_def, EV_def, uTile_def, vTile_def]

set_option maxHeartbeats 2000000 in
/-- The output tile of a step. -/
theorem out0_B_16_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : ¬cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = YO x0 x1 x2 x3 x4 x5 x6 x7 x8 x9 x10 x11 x12 x13 x14 x15 (Scalar.addi (0#32) (Scalar.muli (BitVec.ofNat 32 ↑(i 1)) 512#32)) (EU (k0_pay4 (View.ld xs0 (Rect.unit ![0, 512, 0] ![1, 8, 1024] inb_S1x520x1024_S1x8x1024_0_512_0))) (uTile x0 x2 x3)) (EV (k0_pay5 (View.ld xs1 (Rect.unit ![0, 512, 0] ![1, 16, 1024] inb_S1x528x1024_S1x16x1024_0_512_0))) (vTile x0 x2 x3)) := by
  funext y
  frame_open
  frame_out
  simp only [readCov_ld, EU_def, EV_def, uTile_def, vTile_def]
  simp only [LW_def, LV_def, LU_def, LUp_def, LDn_def, LP_def, YA_def, YB_def, YO_def]

end Cert.KernelIdeal.Blk
-- ==== Proof.Blk1C.lean ====
module

public import proofs.«01_k».proof.Proof.Blk1

@[expose] public section

set_option maxRecDepth 16384

noncomputable section

open Idealize.ShloMosaic Idealize.ShloMosaic.TcCoe Idealize.SL.Sem
open Idealize.ShloMosaic.Pipeline (Dat)

namespace Cert.KernelIdeal.Blk

open Cert.KernelIdeal Cert.KernelIdeal.Gen

set_option maxHeartbeats 2000000 in
/-- The convolution scratch after a step. -/
theorem sout0_C_0_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = (EU (k0_pay4 (View.ld xs0 (Rect.unit ![0, 512, 0] ![1, 8, 1024] inb_S1x520x1024_S1x8x1024_0_512_0))) (uTile x0 x2 x3)) := by
  funext y
  frame_open
  frame_out
  simp only [EU_def, EV_def, uTile_def, vTile_def]

set_option maxHeartbeats 2000000 in
/-- The pooling scratch after a step. -/
theorem sout0_C_1_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = (EV (k0_pay5 (View.ld xs1 (Rect.unit ![0, 512, 0] ![1, 16, 1024] inb_S1x528x1024_S1x16x1024_0_512_0))) (vTile x0 x2 x3)) := by
  funext y
  frame_open
  frame_out
  simp only [EU_def, EV_def, uTile_def, vTile_def]

set_option maxHeartbeats 2000000 in
/-- The output tile of a step. -/
theorem out0_C_16_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    out0_C_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = YO x0 x1 x2 x3 x4 x5 x6 x7 x8 x9 x10 x11 x12 x13 x14 x15 (Scalar.addi (0#32) (Scalar.muli (BitVec.ofNat 32 ↑(i 1)) 512#32)) (EU (k0_pay4 (View.ld xs0 (Rect.unit ![0, 512, 0] ![1, 8, 1024] inb_S1x520x1024_S1x8x1024_0_512_0))) (uTile x0 x2 x3)) (EV (k0_pay5 (View.ld xs1 (Rect.unit ![0, 512, 0] ![1, 16, 1024] inb_S1x528x1024_S1x16x1024_0_512_0))) (vTile x0 x2 x3)) := by
  funext y
  frame_open
  frame_out
  simp only [readCov_ld, EU_def, EV_def, uTile_def, vTile_def]
  simp only [LW_def, LV_def, LU_def, LUp_def, LDn_def, LP_def, YA_def, YB_def, YO_def]

set_option maxHeartbeats 2000000 in
/-- The convolution state after the last step. -/
theorem out0_C_17_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    out0_C_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = View.ld (EU (k0_pay4 (View.ld xs0 (Rect.unit ![0, 512, 0] ![1, 8, 1024] inb_S1x520x1024_S1x8x1024_0_512_0))) (uTile x0 x2 x3)) (Rect.unit ![0, 518, 0] ![1, 2, 1024] inb_S1x520x1024_S1x2x1024_0_518_0) := by
  funext y
  frame_open
  frame_out
  simp only [readCov_ld, EU_def, EV_def, uTile_def, vTile_def]

set_option maxHeartbeats 2000000 in
/-- The pooling state after the last step. -/
theorem out0_C_18_eq (c : Dev nD) (i : grid0.Coords) (arg2 : Memref sig .tc .vmem S1x512x1024 .f32) (harg2 : arg2.IsWhole) (arg3 : Memref sig .tc .vmem S1x512x256 .f32) (harg3 : arg3.IsWhole) (arg4 : Memref sig .tc .vmem S1x1024 .f32) (harg4 : arg4.IsWhole) (arg5 : Memref sig .tc .vmem S1024x6144 .bf16) (harg5 : arg5.IsWhole) (arg6 : Memref sig .tc .vmem S3x1024 .f32) (harg6 : arg6.IsWhole) (arg7 : Memref sig .tc .vmem S1024x1024 .bf16) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x4096 .bf16) (harg12 : arg12.IsWhole) (arg13 : Memref sig .tc .vmem S4096x1024 .bf16) (harg13 : arg13.IsWhole) (arg14 : Memref sig .tc .vmem S1x1024 .f32) (harg14 : arg14.IsWhole) (arg15 : Memref sig .tc .vmem S1024x1024 .bf16) (harg15 : arg15.IsWhole) (arg16 : Memref sig .tc .vmem S256x1024 .bf16) (harg16 : arg16.IsWhole) (arg17 : Memref sig .tc .vmem S1x1024 .f32) (harg17 : arg17.IsWhole) (arg18 : Memref sig .tc .vmem S1x512x1024 .f32) (harg18 : arg18.IsWhole) (arg19 : Memref sig .tc .vmem S1x2x1024 .f32) (harg19 : arg19.IsWhole) (arg20 : Memref sig .tc .vmem S1x15x1024 .f32) (harg20 : arg20.IsWhole) (arg21 : Memref sig .tc .vmem S1x520x1024 .f32) (harg21 : arg21.IsWhole) (arg22 : Memref sig .tc .vmem S1x528x1024 .f32) (harg22 : arg22.IsWhole) (hc0 : ¬cond0_0 i) (hc1 : cond0_1 i) (hc2 : cond0_2 i) (x0 : Vec Ideal S1x512x1024 .f32) (x1 : Vec Ideal S1x512x256 .f32) (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (xs0 : Vec Ideal S1x520x1024 .f32) (xs1 : Vec Ideal S1x528x1024 .f32) :
    out0_C_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 x0 x1 x2 x3 x4 x5 x6 x7 x8 x9 x10 x11 x12 x13 x14 x15 xs0 xs1 = View.ld (EV (k0_pay5 (View.ld xs1 (Rect.unit ![0, 512, 0] ![1, 16, 1024] inb_S1x528x1024_S1x16x1024_0_512_0))) (vTile x0 x2 x3)) (Rect.unit ![0, 513, 0] ![1, 15, 1024] inb_S1x528x1024_S1x15x1024_0_513_0) := by
  funext y
  frame_open
  frame_out
  simp only [readCov_ld, EU_def, EV_def, uTile_def, vTile_def]

end Cert.KernelIdeal.Blk
-- ==== Proof.Arr1.lean ====
module

public import proofs.«01_k».proof.Proof.Ops1
public import proofs.«01_k».proof.Proof.Out1
public import proofs.«01_k».proof.Proof.Blk1A
public import proofs.«01_k».proof.Proof.Blk1B
public import proofs.«01_k».proof.Proof.Blk1C
public import proofs.«01_k».proof.Proof.PoolKey

@[expose] public section

/-! The prompt kernel's carried scratch and its results after the run, as the layer's mathematics of the arguments. -/

set_option maxRecDepth 16384

noncomputable section

open Idealize.ShloMosaic Idealize.ShloMosaic.TcCoe Idealize.SL.Sem
open Idealize.ShloMosaic.Pipeline (Dat)
open Cert.Spec

namespace Cert.KernelIdeal.Blk

open Cert.KernelIdeal Cert.KernelIdeal.Gen Cert.KernelIdeal.Value

variable (m : (ℓ : Loc nD τ sig) → Buf (Elt Ideal) ℓ)

/-- A position's input row. -/
def xK (c : Dev nD) (b : Fin 8) (l : Fin 2048) (k : Fin 1024) : EReal :=
  (show FVec Ideal S8x2048x1024 .f32 from m ((c : Thread nD τ).loc main_arg0)) (ix3 b l k)

/-- A position's per-layer embedding row. -/
def pK (c : Dev nD) (b : Fin 8) (l : Fin 2048) (q : Fin 256) : EReal :=
  (show FVec Ideal S1x8x2048x256 .f32 from m ((c : Thread nD τ).loc main_arg1)) (ix4 0 b l q)

/-- The convolution's history of a sequence: eight rows of zeros, then its own. -/
def uHist (c : Dev nD) (b : Fin 8) (q : ℕ) (d : Fin 1024) : EReal :=
  if q < 8 then 0 else if h : q - 8 < 2048 then uRow (wK m c) (xK m c b ⟨q - 8, h⟩) d else 0

/-- The pooling branch's history of a sequence: sixteen rows of zeros, then its own. -/
def vHist (c : Dev nD) (b : Fin 8) (q : ℕ) (d : Fin 1024) : EReal :=
  if q < 16 then 0 else if h : q - 16 < 2048 then vRow (wK m c) (xK m c b ⟨q - 16, h⟩) d else 0

/-- A position as the kernel counts it. -/
def posK (l : Fin 2048) : EReal := FloatOps.sitofp (F := Ideal) .f32 (IntOp.addi 0#32 (BitVec.ofNat 32 l.val))

/-- The layer's output at a position. -/
def yK (c : Dev nD) (b : Fin 8) (l : Fin 2048) (d : Fin 1024) : EReal :=
  yRow (wK m c) (xK m c b l) (fun j => uHist m c b (8 + l.val - j)) (fun j => vHist m c b (16 + l.val - j)) (posK l)
    (pK m c b l) d

theorem idxB : ∀ t : Fin cfg0.N, win0_0.index t = ![t.val / 4, t.val % 4, 0] ∧ win0_1.index t = ![t.val / 4, t.val % 4, 0]
    ∧ win0_16.index t = ![t.val / 4, t.val % 4, 0]
    ∧ win0_17.index t = ![t.val / 4, 0, 0] ∧ win0_18.index t = ![t.val / 4, 0, 0] :=
  (by decide +kernel : ∀ t : Fin grid0.N, _)

theorem flush17 : ∀ t : Fin cfg0.N, (cfg0.win 17).flush t = true → t.val % 4 = 3 :=
  (by decide +kernel : ∀ t : Fin grid0.N, (cfg0.win 17).flush t = true → t.val % 4 = 3)

theorem flush18 : ∀ t : Fin cfg0.N, (cfg0.win 18).flush t = true → t.val % 4 = 3 :=
  (by decide +kernel : ∀ t : Fin grid0.N, (cfg0.win 18).flush t = true → t.val % 4 = 3)

theorem coord1 : ∀ t : Fin cfg0.N, (grid0.coords t 1).val = t.val % 4 :=
  (by decide +kernel : ∀ t : Fin grid0.N, (grid0.coords t 1).val = t.val % 4)

theorem tlt (t : Fin cfg0.N) : t.val < 32 := t.isLt

/-- The sequence of a grid point. -/
def sq (t : Fin cfg0.N) : Fin 8 := ⟨t.val / 4, by have := tlt t; omega⟩

/-- The position of row `r` of a grid point's tile. -/
def ps (t : Fin cfg0.N) (r : Fin 512) : Fin 2048 := ⟨512 * (t.val % 4) + r.val, by omega⟩

theorem x_blk (c : Dev nD) (t : Fin cfg0.N) (r : Fin 512) (k : Fin 1024) :
    (show Vec Ideal S1x512x1024 .f32 from iblk m c 0 t) (ix3 0 r k) = xK m c (sq t) (ps t r) k := by
  unfold xK sq ps
  blk_simp [iblk, idxB t]
  entry_read
  pointwise
  blk_ext [idxB t]

theorem p_blk (c : Dev nD) (t : Fin cfg0.N) (r : Fin 512) (k : Fin 256) :
    (show Vec Ideal S1x512x256 .f32 from iblk m c 1 t) (ix3 0 r k) = pK m c (sq t) (ps t r) k := by
  unfold pK sq ps
  blk_simp [iblk, idxB t]
  entry_read
  pointwise
  blk_ext [idxB t]

theorem uT (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (x0 : Vec Ideal S1x512x1024 .f32) (W : Wts) (X : Fin 1024 → EReal)
    (hW : wts x2 x3 x4 x5 x6 x7 x8 x9 x10 x11 x12 x13 x14 x15 = W) (r : Fin 512) (d : Fin 1024) (hX : ∀ k, x0 (ix3 0 r k) = X k) :
    uTile x0 x2 x3 (ix3 0 r d) = uRow W X d := by
  rw [uTile_row x2 x3 x4 x5 x6 x7 x8 x9 x10 x11 x12 x13 x14 x15, hW]
  simp only [hX]

theorem vT (x2 : Vec Ideal S1x1024 .f32) (x3 : Vec Ideal S1024x6144 .bf16) (x4 : Vec Ideal S3x1024 .f32) (x5 : Vec Ideal S1024x1024 .bf16) (x6 : Vec Ideal S4x256x256 .bf16) (x7 : Vec Ideal S1x1024 .f32) (x8 : Vec Ideal S1024x1024 .bf16) (x9 : Vec Ideal S1x1024 .f32) (x10 : Vec Ideal S1024x4096 .bf16) (x11 : Vec Ideal S4096x1024 .bf16) (x12 : Vec Ideal S1x1024 .f32) (x13 : Vec Ideal S1024x1024 .bf16) (x14 : Vec Ideal S256x1024 .bf16) (x15 : Vec Ideal S1x1024 .f32) (x0 : Vec Ideal S1x512x1024 .f32) (W : Wts) (X : Fin 1024 → EReal)
    (hW : wts x2 x3 x4 x5 x6 x7 x8 x9 x10 x11 x12 x13 x14 x15 = W) (r : Fin 512) (d : Fin 1024) (hX : ∀ k, x0 (ix3 0 r k) = X k) :
    vTile x0 x2 x3 (ix3 0 r d) = vRow W X d := by
  rw [vTile_row x2 x3 x4 x5 x6 x7 x8 x9 x10 x11 x12 x13 x14 x15, hW]
  simp only [hX]

/-- The convolution's scratch at a step holds its history, once its first rows do. -/
theorem U_step (c : Dev nD) (t : Fin cfg0.N) (h : Vec Ideal S1x8x1024 .f32)
    (hh : ∀ (r : Fin 8) (d : Fin 1024), h (ix3 0 r d) = uHist m c (sq t) (512 * (t.val % 4) + r.val) d)
    (q : ℕ) (hq : q < 520) (d : Fin 1024) :
    EU h (uTile (iblk m c 0 t) (iblk m c 2 t) (iblk m c 3 t)) (ix3 0 ⟨q, hq⟩ d)
      = uHist m c (sq t) (512 * (t.val % 4) + q) d := by
  by_cases h8 : q < 8
  · exact (EU_lo h _ ⟨q, h8⟩ d).trans (hh ⟨q, h8⟩ d)
  · have h5 : q - 8 < 512 := by omega
    rw [show (⟨q, hq⟩ : Fin 520) = ⟨8 + (q - 8), by omega⟩ from Fin.ext (by show q = 8 + (q - 8); omega)]
    refine (EU_hi h _ ⟨q - 8, h5⟩ d).trans ?_
    unfold uHist
    rw [if_neg (by omega), dif_pos (by omega)]
    refine (uT _ _ _ _ _ _ _ _ _ _ _ _ _ _ _ _ _ (wts_blk m c t) _ d (fun k => x_blk m c t _ k)).trans ?_
    congr 2
    apply Fin.ext
    show 512 * (t.val % 4) + (q - 8) = 512 * (t.val % 4) + q - 8
    omega

/-- The pooling branch's scratch at a step holds its history, once its first rows do. -/
theorem V_step (c : Dev nD) (t : Fin cfg0.N) (h : Vec Ideal S1x16x1024 .f32)
    (hh : ∀ (r : Fin 16) (d : Fin 1024), h (ix3 0 r d) = vHist m c (sq t) (512 * (t.val % 4) + r.val) d)
    (q : ℕ) (hq : q < 528) (d : Fin 1024) :
    EV h (vTile (iblk m c 0 t) (iblk m c 2 t) (iblk m c 3 t)) (ix3 0 ⟨q, hq⟩ d)
      = vHist m c (sq t) (512 * (t.val % 4) + q) d := by
  by_cases h8 : q < 16
  · exact (EV_lo h _ ⟨q, h8⟩ d).trans (hh ⟨q, h8⟩ d)
  · have h5 : q - 16 < 512 := by omega
    rw [show (⟨q, hq⟩ : Fin 528) = ⟨16 + (q - 16), by omega⟩ from Fin.ext (by show q = 16 + (q - 16); omega)]
    refine (EV_hi h _ ⟨q - 16, h5⟩ d).trans ?_
    unfold vHist
    rw [if_neg (by omega), dif_pos (by omega)]
    refine (vT _ _ _ _ _ _ _ _ _ _ _ _ _ _ _ _ _ (wts_blk m c t) _ d (fun k => x_blk m c t _ k)).trans ?_
    congr 2
    apply Fin.ext
    show 512 * (t.val % 4) + (q - 16) = 512 * (t.val % 4) + q - 16
    omega

theorem pay2_at (r : Fin 8) (d : Fin 1024) : k0_pay2 (F := Ideal) (ix3 0 r d) = 0 := by
  unfold k0_pay2
  pointwise

theorem pay3_at (r : Fin 16) (d : Fin 1024) : k0_pay3 (F := Ideal) (ix3 0 r d) = 0 := by
  unfold k0_pay3
  pointwise

theorem pay4_at (U : Vec Ideal S1x520x1024 .f32) (r : Fin 8) (d : Fin 1024) :
    k0_pay4 (View.ld U (Rect.unit ![0, 512, 0] ![1, 8, 1024] inb_S1x520x1024_S1x8x1024_0_512_0)) (ix3 0 r d)
      = U (ix3 0 ⟨512 + r.val, by omega⟩ d) := by
  unfold k0_pay4
  pointwise

theorem pay5_at (V : Vec Ideal S1x528x1024 .f32) (r : Fin 16) (d : Fin 1024) :
    k0_pay5 (View.ld V (Rect.unit ![0, 512, 0] ![1, 16, 1024] inb_S1x528x1024_S1x16x1024_0_512_0)) (ix3 0 r d)
      = V (ix3 0 ⟨512 + r.val, by omega⟩ d) := by
  unfold k0_pay5
  pointwise

theorem ldU (U : Vec Ideal S1x520x1024 .f32) (l : Fin 2) (d : Fin 1024) :
    View.ld U (Rect.unit ![0, 518, 0] ![1, 2, 1024] inb_S1x520x1024_S1x2x1024_0_518_0) (ix3 0 l d)
      = U (ix3 0 ⟨518 + l.val, by omega⟩ d) := by
  rw [View.ld_apply]
  congr 1
  funext a
  fin_cases a <;> ext <;> simp

theorem ldV (V : Vec Ideal S1x528x1024 .f32) (l : Fin 15) (d : Fin 1024) :
    View.ld V (Rect.unit ![0, 513, 0] ![1, 15, 1024] inb_S1x528x1024_S1x15x1024_0_513_0) (ix3 0 l d)
      = V (ix3 0 ⟨513 + l.val, by omega⟩ d) := by
  rw [View.ld_apply]
  congr 1
  funext a
  fin_cases a <;> ext <;> simp

/-- A tile's first position, as the kernel's word. -/
def wd (t : Fin cfg0.N) : BitVec 32 :=
  Scalar.addi (0#32) (Scalar.muli (BitVec.ofNat 32 (grid0.coords t 1).val) 512#32)

theorem pos_eq (t : Fin cfg0.N) (r : Fin 512) : posOf (wd t) r = posK (ps t r) := by
  unfold posOf posK ps wd
  rw [coord1]
  congr 1
  apply BitVec.eq_of_toNat_eq
  have h4 : t.val % 4 < 4 := Nat.mod_lt _ (by omega)
  have hr := r.isLt
  simp [IntOp.addi, Scalar.addi, Scalar.muli, IntOp.muli]
  omega

/-- What the buffers hold after a point. -/
def Post (c : Dev nD) (t : Fin cfg0.N) (o : Vec Ideal S1x512x1024 .f32 × Vec Ideal S1x2x1024 .f32 × Vec Ideal S1x15x1024 .f32 × Vec Ideal S1x520x1024 .f32 × Vec Ideal S1x528x1024 .f32) : Prop :=
  (∀ (q : ℕ) (hq : q < 520) (d : Fin 1024), o.2.2.2.1 (ix3 0 ⟨q, hq⟩ d) = uHist m c (sq t) (512 * (t.val % 4) + q) d)
  ∧ (∀ (q : ℕ) (hq : q < 528) (d : Fin 1024), o.2.2.2.2 (ix3 0 ⟨q, hq⟩ d) = vHist m c (sq t) (512 * (t.val % 4) + q) d)
  ∧ o.1 = YO (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (wd t) o.2.2.2.1 o.2.2.2.2
  ∧ (t.val % 4 = 3 → o.2.1 = View.ld o.2.2.2.1 (Rect.unit ![0, 518, 0] ![1, 2, 1024] inb_S1x520x1024_S1x2x1024_0_518_0)
    ∧ o.2.2.1 = View.ld o.2.2.2.2 (Rect.unit ![0, 513, 0] ![1, 15, 1024] inb_S1x528x1024_S1x15x1024_0_513_0))

theorem post_of (c : Dev nD) (t : Fin cfg0.N) (h : Vec Ideal S1x8x1024 .f32) (h' : Vec Ideal S1x16x1024 .f32)
    (hh : ∀ (r : Fin 8) (d : Fin 1024), h (ix3 0 r d) = uHist m c (sq t) (512 * (t.val % 4) + r.val) d)
    (hh' : ∀ (r : Fin 16) (d : Fin 1024), h' (ix3 0 r d) = vHist m c (sq t) (512 * (t.val % 4) + r.val) d)
    (o1 : Vec Ideal S1x512x1024 .f32) (o2 : Vec Ideal S1x2x1024 .f32) (o3 : Vec Ideal S1x15x1024 .f32)
    (U U' : Vec Ideal S1x520x1024 .f32) (V V' : Vec Ideal S1x528x1024 .f32)
    (hU' : U' = EU h (uTile (iblk m c 0 t) (iblk m c 2 t) (iblk m c 3 t)))
    (hV' : V' = EV h' (vTile (iblk m c 0 t) (iblk m c 2 t) (iblk m c 3 t)))
    (eU : U = U') (eV : V = V')
    (e1 : o1 = YO (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (wd t) U' V')
    (e2 : t.val % 4 = 3 → o2 = View.ld U' (Rect.unit ![0, 518, 0] ![1, 2, 1024] inb_S1x520x1024_S1x2x1024_0_518_0))
    (e3 : t.val % 4 = 3 → o3 = View.ld V' (Rect.unit ![0, 513, 0] ![1, 15, 1024] inb_S1x528x1024_S1x15x1024_0_513_0)) :
    Post m c t (o1, o2, o3, U, V) := by
  subst eU eV
  refine ⟨fun q hq d => ?_, fun q hq d => ?_, e1, fun h3 => ⟨e2 h3, e3 h3⟩⟩
  · exact (congrFun hU' _).trans (U_step m c t h hh q hq d)
  · exact (congrFun hV' _).trans (V_step m c t h' hh' q hq d)

theorem post_A (c : Dev nD) (t : Fin cfg0.N) (acc : Vec Ideal S1x512x1024 .f32 × Vec Ideal S1x2x1024 .f32 × Vec Ideal S1x15x1024 .f32 × Vec Ideal S1x520x1024 .f32 × Vec Ideal S1x528x1024 .f32)
    (h0 : t.val % 4 = 0) : Post m c t (stAt0 m c t.val t.isLt acc) := by
  rw [stAt0_A m c t acc h0 (by omega) (by omega)]
  refine post_of m c t (k0_pay2 (F := Ideal)) (k0_pay3 (F := Ideal)) ?_ ?_ _ _ _ _ _ _ _ rfl rfl (sout0_A_0_eq ..) (sout0_A_1_eq ..)
    (out0_A_16_eq ..) (fun h => by omega) (fun h => by omega)
  · intro r d
    rw [pay2_at]
    unfold uHist
    rw [if_pos (by omega)]
  · intro r d
    rw [pay3_at]
    unfold vHist
    rw [if_pos (by omega)]

theorem carry_U (c : Dev nD) (t t' : Fin cfg0.N) (ht : t.val = t'.val + 1) (h0 : ¬t.val % 4 = 0) (U : Vec Ideal S1x520x1024 .f32)
    (hU : ∀ (q : ℕ) (hq : q < 520) (d : Fin 1024), U (ix3 0 ⟨q, hq⟩ d) = uHist m c (sq t') (512 * (t'.val % 4) + q) d)
    (r : Fin 8) (d : Fin 1024) :
    k0_pay4 (View.ld U (Rect.unit ![0, 512, 0] ![1, 8, 1024] inb_S1x520x1024_S1x8x1024_0_512_0)) (ix3 0 r d)
      = uHist m c (sq t) (512 * (t.val % 4) + r.val) d := by
  rw [pay4_at, hU]
  rw [show sq t' = sq t from Fin.ext (by show t'.val / 4 = t.val / 4; omega),
    show 512 * (t'.val % 4) + (512 + r.val) = 512 * (t.val % 4) + r.val from by omega]

theorem carry_V (c : Dev nD) (t t' : Fin cfg0.N) (ht : t.val = t'.val + 1) (h0 : ¬t.val % 4 = 0) (V : Vec Ideal S1x528x1024 .f32)
    (hV : ∀ (q : ℕ) (hq : q < 528) (d : Fin 1024), V (ix3 0 ⟨q, hq⟩ d) = vHist m c (sq t') (512 * (t'.val % 4) + q) d)
    (r : Fin 16) (d : Fin 1024) :
    k0_pay5 (View.ld V (Rect.unit ![0, 512, 0] ![1, 16, 1024] inb_S1x528x1024_S1x16x1024_0_512_0)) (ix3 0 r d)
      = vHist m c (sq t) (512 * (t.val % 4) + r.val) d := by
  rw [pay5_at, hV]
  rw [show sq t' = sq t from Fin.ext (by show t'.val / 4 = t.val / 4; omega),
    show 512 * (t'.val % 4) + (512 + r.val) = 512 * (t.val % 4) + r.val from by omega]

theorem post_BC (c : Dev nD) (t t' : Fin cfg0.N) (ht : t.val = t'.val + 1) (acc : Vec Ideal S1x512x1024 .f32 × Vec Ideal S1x2x1024 .f32 × Vec Ideal S1x15x1024 .f32 × Vec Ideal S1x520x1024 .f32 × Vec Ideal S1x528x1024 .f32)
    (h0 : ¬t.val % 4 = 0) (ha : Post m c t' acc) : Post m c t (stAt0 m c t.val t.isLt acc) := by
  by_cases h3 : t.val % 4 = 3
  · rw [stAt0_C m c t acc h0 (by omega) h3]
    exact post_of m c t _ _ (carry_U m c t t' ht h0 _ ha.1) (carry_V m c t t' ht h0 _ ha.2.1) _ _ _ _ _ _ _ rfl rfl
      (sout0_C_0_eq ..) (sout0_C_1_eq ..) (out0_C_16_eq ..) (fun _ => out0_C_17_eq ..) (fun _ => out0_C_18_eq ..)
  · rw [stAt0_B m c t acc h0 (by omega) h3]
    exact post_of m c t _ _ (carry_U m c t t' ht h0 _ ha.1) (carry_V m c t t' ht h0 _ ha.2.1) _ _ _ _ _ _ _ rfl rfl
      (sout0_B_0_eq ..) (sout0_B_1_eq ..) (out0_B_16_eq ..) (fun h => absurd h h3) (fun h => absurd h h3)

/-- What the buffers hold after every point, by induction over the points. -/
theorem post (c : Dev nD) : ∀ (n : ℕ) (hn : n < cfg0.N), Post m c ⟨n, hn⟩ (outsAt0 m c n hn) := by
  intro n
  induction n with
  | zero =>
    intro hn
    rw [outsAt0_zero]
    exact post_A m c ⟨0, hn⟩ _ rfl
  | succ n ih =>
    intro hn
    rw [outsAt0_succ]
    by_cases h0 : (n + 1) % 4 = 0
    · exact post_A m c ⟨n + 1, hn⟩ _ h0
    · exact post_BC m c ⟨n + 1, hn⟩ ⟨n, Nat.lt_of_succ_lt hn⟩ rfl _ h0 (ih _)

theorem YO_blk (c : Dev nD) (t : Fin cfg0.N) (U : Vec Ideal S1x520x1024 .f32) (V : Vec Ideal S1x528x1024 .f32)
    (hU : ∀ (q : ℕ) (hq : q < 520) (d : Fin 1024), U (ix3 0 ⟨q, hq⟩ d) = uHist m c (sq t) (512 * (t.val % 4) + q) d)
    (hV : ∀ (q : ℕ) (hq : q < 528) (d : Fin 1024), V (ix3 0 ⟨q, hq⟩ d) = vHist m c (sq t) (512 * (t.val % 4) + q) d)
    (r : Fin 512) (d : Fin 1024) :
    YO (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (wd t) U V (ix3 0 r d) = yK m c (sq t) (ps t r) d := by
  rw [YO_row (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t), wts_blk]
  unfold yK
  rw [show (fun k => (show Vec Ideal S1x512x1024 .f32 from iblk m c 0 t) (ix3 0 r k)) = xK m c (sq t) (ps t r) from
      funext fun k => x_blk m c t r k,
    show (fun k => (show Vec Ideal S1x512x256 .f32 from iblk m c 1 t) (ix3 0 r k)) = pK m c (sq t) (ps t r) from
      funext fun k => p_blk m c t r k]
  refine congrFun (yRow_congr _ _ _ ?_ ?_ (pos_eq t r)) d
  · intro j hj
    funext e
    unfold usOf
    rw [hU]
    congr 1
    show 512 * (t.val % 4) + (8 + r.val - j) = 8 + (512 * (t.val % 4) + r.val) - j
    omega
  · intro j hj
    funext e
    unfold vsOf
    rw [hV]
    congr 1
    show 512 * (t.val % 4) + (16 + r.val - j) = 16 + (512 * (t.val % 4) + r.val) - j
    omega

theorem final16 (c : Dev nD) : (dats m 0 c).arrAt 16 cfg0.N
    = (show FVec Ideal S8x2048x1024 .f32 from fun i => yK m c (i 0) (i 1) (i 2)) := by
  refine (dats m 0 c).arrAt_eq_of_covers 16 _ (by decide +kernel) fun t hf y => ?_
  blk_simp
  rw [after0_16]
  have hp := post m c t.val t.isLt
  rw [hp.2.2.1]
  obtain ⟨r, d, rfl⟩ : ∃ (r : Fin 512) (d : Fin 1024), y = ix3 0 r d := ⟨y 1, y 2, by
    funext a
    fin_cases a
    · exact Subsingleton.elim (α := Fin 1) _ _
    · rfl
    · rfl⟩
  refine (YO_blk m c t _ _ hp.1 hp.2.1 r d).trans ?_
  unfold sq ps
  congr 1 <;> apply Fin.ext
  all_goals (blk_simp [idxB t] <;> (dsimp only; omega))

theorem final17 (c : Dev nD) : (dats m 0 c).arrAt 17 cfg0.N
    = (show FVec Ideal S8x2x1024 .f32 from fun i => uHist m c (i 0) (2054 + (i 1).val) (i 2)) := by
  refine (dats m 0 c).arrAt_eq_of_covers 17 _ (by decide +kernel) fun t hf y => ?_
  have h3 := flush17 t hf
  blk_simp
  rw [after0_17]
  have hp := post m c t.val t.isLt
  rw [(hp.2.2.2 h3).1]
  obtain ⟨r, d, rfl⟩ : ∃ (r : Fin 2) (d : Fin 1024), y = ix3 0 r d := ⟨y 1, y 2, by
    funext a
    fin_cases a
    · exact Subsingleton.elim (α := Fin 1) _ _
    · rfl
    · rfl⟩
  refine (ldU _ r d).trans ((hp.1 (518 + r.val) (by omega) d).trans ?_)
  unfold sq
  congr 1
  · apply Fin.ext
    blk_simp [idxB t] <;> (dsimp only; omega)
  · blk_simp [idxB t] <;> (dsimp only; omega)
  · apply Fin.ext
    blk_simp [idxB t]

theorem final18 (c : Dev nD) : (dats m 0 c).arrAt 18 cfg0.N
    = (show FVec Ideal S8x15x1024 .f32 from fun i => vHist m c (i 0) (2049 + (i 1).val) (i 2)) := by
  refine (dats m 0 c).arrAt_eq_of_covers 18 _ (by decide +kernel) fun t hf y => ?_
  have h3 := flush18 t hf
  blk_simp
  rw [after0_18]
  have hp := post m c t.val t.isLt
  rw [(hp.2.2.2 h3).2]
  obtain ⟨r, d, rfl⟩ : ∃ (r : Fin 15) (d : Fin 1024), y = ix3 0 r d := ⟨y 1, y 2, by
    funext a
    fin_cases a
    · exact Subsingleton.elim (α := Fin 1) _ _
    · rfl
    · rfl⟩
  refine (ldV _ r d).trans ((hp.2.1 (513 + r.val) (by omega) d).trans ?_)
  unfold sq
  congr 1
  · apply Fin.ext
    blk_simp [idxB t] <;> (dsimp only; omega)
  · blk_simp [idxB t] <;> (dsimp only; omega)
  · apply Fin.ext
    blk_simp [idxB t]

end Cert.KernelIdeal.Blk
-- ==== Proof.End1.lean ====
module

public import proofs.«01_k».proof.Defs
public import proofs.«01_k».proof.Proof.RefEnd1
public import proofs.«01_k».proof.Proof.Arr1

@[expose] public section

/-! The prompt program's value claim: both runs end with the layer's mathematics of the same arguments. -/

set_option maxRecDepth 16384

noncomputable section

open Idealize.ShloMosaic Idealize.ShloMosaic.TcCoe Idealize.SL.Sem Idealize.ShloMosaic.StableHlo
open Cert.Spec

namespace Cert.End1

open Cert.KernelIdeal.Blk (wK xK pK)
open Cert.ReferenceIdeal.Rf (wtsR xR pR)

theorem at_eq {S : Shape} (a b : FVec Ideal S .f32) (h : a = b) (i : S.Idx) : a i = b i := congrFun h i

/-- The two programs' arguments agree on a device. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem wts_eq (hA : Agree m m' c) : wtsR (launchContents m' c) = wK m c := by
  unfold wtsR wK
  rw [Wts.mk.injEq]
  unfold Agree at hA
  exact ⟨(funext fun k => at_eq (S := Cert.ReferenceIdeal.S1x1024) _ _ hA.2.2.1 (ix2 0 k)),
    (funext fun k => (funext fun n => at_eq (S := Cert.ReferenceIdeal.S1x1024x6144) _ _ hA.2.2.2.1 (ix3 0 k n))),
    (funext fun k => (funext fun n => at_eq (S := Cert.ReferenceIdeal.S1x3x1024) _ _ hA.2.2.2.2.1 (ix3 0 k n))),
    (funext fun k => (funext fun n => at_eq (S := Cert.ReferenceIdeal.S1x1024x1024) _ _ hA.2.2.2.2.2.1 (ix3 0 k n))),
    (funext fun k => (funext fun n => (funext fun e => at_eq (S := Cert.ReferenceIdeal.S1x4x256x256) _ _ hA.2.2.2.2.2.2.1 (ix4 0 k n e)))),
    (funext fun k => at_eq (S := Cert.ReferenceIdeal.S1x1024) _ _ hA.2.2.2.2.2.2.2.1 (ix2 0 k)),
    (funext fun k => (funext fun n => at_eq (S := Cert.ReferenceIdeal.S1x1024x1024) _ _ hA.2.2.2.2.2.2.2.2.1 (ix3 0 k n))),
    (funext fun k => at_eq (S := Cert.ReferenceIdeal.S1x1024) _ _ hA.2.2.2.2.2.2.2.2.2.1 (ix2 0 k)),
    (funext fun k => (funext fun n => at_eq (S := Cert.ReferenceIdeal.S1x1024x4096) _ _ hA.2.2.2.2.2.2.2.2.2.2.1 (ix3 0 k n))),
    (funext fun k => (funext fun n => at_eq (S := Cert.ReferenceIdeal.S1x4096x1024) _ _ hA.2.2.2.2.2.2.2.2.2.2.2.1 (ix3 0 k n))),
    (funext fun k => at_eq (S := Cert.ReferenceIdeal.S1x1024) _ _ hA.2.2.2.2.2.2.2.2.2.2.2.2.1 (ix2 0 k)),
    (funext fun k => (funext fun n => at_eq (S := Cert.ReferenceIdeal.S1x1024x1024) _ _ hA.2.2.2.2.2.2.2.2.2.2.2.2.2.1 (ix3 0 k n))),
    (funext fun k => (funext fun n => at_eq (S := Cert.ReferenceIdeal.S1x256x1024) _ _ hA.2.2.2.2.2.2.2.2.2.2.2.2.2.2.1 (ix3 0 k n))),
    (funext fun k => at_eq (S := Cert.ReferenceIdeal.S1024) _ _ hA.2.2.2.2.2.2.2.2.2.2.2.2.2.2.2 (ix1 k))⟩

theorem x_eq (hA : Agree m m' c) (b : Fin 8) (t : Fin 2048) : xR (launchContents m' c) b t = xK m c b t := by
  unfold Agree at hA
  exact funext fun k => at_eq (S := Cert.ReferenceIdeal.S8x2048x1024) _ _ hA.1 (ix3 b t k)

theorem p_eq (hA : Agree m m' c) (b : Fin 8) (t : Fin 2048) : pR (launchContents m' c) b t = pK m c b t := by
  unfold Agree at hA
  exact funext fun k => at_eq (S := Cert.ReferenceIdeal.S1x8x2048x256) _ _ hA.2.1 (ix4 0 b t k)

theorem u_eq (hA : Agree m m' c) (b : Fin 8) (r : ℕ) (d : Fin 1024) :
    Cert.ReferenceIdeal.Rf.uHist (launchContents m' c) b r d = Cert.KernelIdeal.Blk.uHist m c b (6 + r) d := by
  unfold Cert.ReferenceIdeal.Rf.uHist Cert.KernelIdeal.Blk.uHist
  rw [wts_eq m m' c hA]
  by_cases h : r < 2
  · rw [dif_pos h, if_pos (by omega)]
  · rw [dif_neg h, if_neg (by omega)]
    by_cases h' : r - 2 < 2048
    · rw [dif_pos h', dif_pos (by omega), x_eq m m' c hA]
      congr 2
      apply Fin.ext
      show r - 2 = 6 + r - 8
      omega
    · rw [dif_neg h', dif_neg (by omega)]

theorem v_eq (hA : Agree m m' c) (b : Fin 8) (r : ℕ) (d : Fin 1024) :
    Cert.ReferenceIdeal.Rf.vHist (launchContents m' c) b r d = Cert.KernelIdeal.Blk.vHist m c b (1 + r) d := by
  unfold Cert.ReferenceIdeal.Rf.vHist Cert.KernelIdeal.Blk.vHist
  rw [wts_eq m m' c hA]
  by_cases h : r < 15
  · rw [dif_pos h, if_pos (by omega)]
  · rw [dif_neg h, if_neg (by omega)]
    by_cases h' : r - 15 < 2048
    · rw [dif_pos h', dif_pos (by omega), x_eq m m' c hA]
      congr 2
      apply Fin.ext
      show r - 15 = 1 + r - 16
      omega
    · rw [dif_neg h', dif_neg (by omega)]

/-- The first results are equal. -/
theorem y_eq (hA : Agree m m' c) : (show FVec Ideal Cert.KernelIdeal.S8x2048x1024 .f32 from Cert.ReferenceIdeal.Value.val4 (launchContents m' c) (Proc.devRef .tc Cert.ReferenceIdeal.main_v190))
    = (show FVec Ideal Cert.KernelIdeal.S8x2048x1024 .f32 from (Cert.KernelIdeal.Gen.dats m 0 c).arrAt 16 Cert.KernelIdeal.cfg0.N) := by
  rw [Cert.KernelIdeal.Blk.final16 m c]
  funext i
  obtain ⟨b, t, d, rfl⟩ : ∃ (b : Fin 8) (t : Fin 2048) (d : Fin 1024), i = ix3 b t d := ⟨i 0, i 1, i 2, by funext a; fin_cases a <;> rfl⟩
  refine (Cert.ReferenceIdeal.Rf.y_all (launchContents m' c) b t d).trans ?_
  rw [wts_eq m m' c hA, x_eq m m' c hA, p_eq m m' c hA]
  show _ = Cert.KernelIdeal.Blk.yK m c b t d
  unfold Cert.KernelIdeal.Blk.yK
  refine congrFun (yRow_congr _ _ _ ?_ ?_ rfl) d
  · intro j hj
    funext e
    exact (u_eq m m' c hA b _ e).trans (by congr 1; omega)
  · intro j hj
    funext e
    exact (v_eq m m' c hA b _ e).trans (by congr 1; omega)

/-- The second results are equal. -/
theorem conv_eq (hA : Agree m m' c) : (show FVec Ideal Cert.KernelIdeal.S8x2x1024 .f32 from Cert.ReferenceIdeal.Value.val4 (launchContents m' c) (Proc.devRef .tc Cert.ReferenceIdeal.main_v193))
    = (show FVec Ideal Cert.KernelIdeal.S8x2x1024 .f32 from (Cert.KernelIdeal.Gen.dats m 0 c).arrAt 17 Cert.KernelIdeal.cfg0.N) := by
  rw [Cert.KernelIdeal.Blk.final17 m c]
  funext i
  obtain ⟨b, l, d, rfl⟩ : ∃ (b : Fin 8) (l : Fin 2) (d : Fin 1024), i = ix3 b l d := ⟨i 0, i 1, i 2, by funext a; fin_cases a <;> rfl⟩
  exact (Cert.ReferenceIdeal.Rf.conv_all (launchContents m' c) b l d).trans ((u_eq m m' c hA b _ d).trans (by congr 1; show 6 + (2048 + l.val) = 2054 + l.val; omega))

/-- The third results are equal. -/
theorem pool_eq (hA : Agree m m' c) : (show FVec Ideal Cert.KernelIdeal.S8x15x1024 .f32 from Cert.ReferenceIdeal.Value.val4 (launchContents m' c) (Proc.devRef .tc Cert.ReferenceIdeal.main_v194))
    = (show FVec Ideal Cert.KernelIdeal.S8x15x1024 .f32 from (Cert.KernelIdeal.Gen.dats m 0 c).arrAt 18 Cert.KernelIdeal.cfg0.N) := by
  rw [Cert.KernelIdeal.Blk.final18 m c]
  funext i
  obtain ⟨b, l, d, rfl⟩ : ∃ (b : Fin 8) (l : Fin 15) (d : Fin 1024), i = ix3 b l d := ⟨i 0, i 1, i 2, by funext a; fin_cases a <;> rfl⟩
  exact (Cert.ReferenceIdeal.Rf.pool_all (launchContents m' c) b l d).trans ((v_eq m m' c hA b _ d).trans (by congr 1; show 1 + (2048 + l.val) = 2049 + l.val; omega))

/-- The claim. -/
theorem algebraic : algebraic_KernelIdeal_ReferenceIdeal (hKernelIdeal := Cert.KernelIdeal.Gen.facts) (hReferenceIdeal := Cert.ReferenceIdeal.Gen.facts) := by
  intro m g m' g' _ hA
  refine ⟨fun c => (Cert.KernelIdeal.Gen.dats m 0 c).arrAt 16 Cert.KernelIdeal.cfg0.N, fun c => (Cert.KernelIdeal.Gen.dats m 0 c).arrAt 17 Cert.KernelIdeal.cfg0.N,
    fun c => (Cert.KernelIdeal.Gen.dats m 0 c).arrAt 18 Cert.KernelIdeal.cfg0.N, Cert.KernelIdeal.Value.run_blocks m g,
    (θ_run _ _ _).mono (fun r h c => ?_) (Cert.ReferenceIdeal.Value.run m' g')⟩
  have hc := h c
  exact ⟨hc.1.trans ((Cert.ReferenceIdeal.Value.val4_main_v190 (launchContents m' c)).symm.trans (y_eq m m' c (hA c))),
    hc.2.1.trans ((Cert.ReferenceIdeal.Value.val4_main_v193 (launchContents m' c)).symm.trans (conv_eq m m' c (hA c))),
    hc.2.2.1.trans ((Cert.ReferenceIdeal.Value.val4_main_v194 (launchContents m' c)).symm.trans (pool_eq m m' c (hA c))), hc.2.2.2⟩

end Cert.End1
-- ==== Proof.Pool2.lean ====
module

public import Idealize.ShloMosaic.Lib.Pointwise
public import proofs.«01_k».proof.Proof.Gen.Reference2Ideal.Run

@[expose] public section

set_option maxRecDepth 16384

/-! A windowed sum of the reference, read at an index: the sum of the window's rows. -/

noncomputable section
open Idealize.ShloMosaic Idealize.ShloMosaic.TcCoe Idealize.SL.Sem
namespace Cert.Reference2Ideal.Rf
open Cert.Reference2Ideal Cert.Reference2Ideal.Gen

/-- A fold of additions is the starting value plus the sum. -/
theorem foldl_add {N : ℕ} (f : Fin N → EReal) (v : EReal) :
    (List.finRange N).foldl (fun r n => r + f n) v = v + ∑ n, f n := by
  have key : ∀ (l : List (Fin N)) (v : EReal),
      l.foldl (fun r n => r + f n) v = v + (l.map f).sum := by
    intro l
    induction l with
    | nil => intro v; simp
    | cons a l ih => intro v; simp [ih, add_assoc]
  rw [key, Fin.sum_univ_def]

/-- The sum over a window of 2 rows. -/
theorem pool2 (x : FVec Ideal S128x9x256 .f32) (v : FVec Ideal S_ .f32) (hv : ∀ i, v i = 0)
    (b : Fin 128) (t : Fin 8) (c : Fin 256) :
    Host.reduceWindowAdd ![1, 2, 1] ![1, 1, 1] ![0, 0, 0] ![0, 0, 0] x v
      reduceWindows_S128x9x256_S128x8x256_w1s1p0_0_w2s1p0_0_w1s1p0_0 h_S_ (ix3 b t c)
      = ∑ n : Fin 2, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 2, 1]⟩ : Shape).numel) _ 0).trans ?_
  rw [zero_add]
  refine Finset.sum_congr rfl fun n _ => ?_
  have hW : ∀ n : Fin 2, ∀ a : Fin 3,
      (((⟨3, ![1, 2, 1]⟩ : Shape).rowMajor.symm n) a).val = ![0, n.val, 0] a := by decide +kernel
  have hw := hW n
  rw [dif_pos]
  · congr 1
    funext a
    fin_cases a <;> apply Fin.ext
    · show b.val * 1 + (((⟨3, ![1, 2, 1]⟩ : Shape).rowMajor.symm n) 0).val - 0 = b.val
      rw [hw 0]; simp
    · show t.val * 1 + (((⟨3, ![1, 2, 1]⟩ : Shape).rowMajor.symm n) 1).val - 0 = t.val + n.val
      rw [hw 1]; simp
    · show c.val * 1 + (((⟨3, ![1, 2, 1]⟩ : Shape).rowMajor.symm n) 2).val - 0 = c.val
      rw [hw 2]; simp
  · intro a
    refine ⟨by fin_cases a <;> exact Nat.zero_le _, ?_⟩
    fin_cases a
    · show b.val * 1 + (((⟨3, ![1, 2, 1]⟩ : Shape).rowMajor.symm n) 0).val - 0 < 128
      rw [hw 0]; simp
    · show t.val * 1 + (((⟨3, ![1, 2, 1]⟩ : Shape).rowMajor.symm n) 1).val - 0 < 9
      rw [hw 1]; simp; omega
    · show c.val * 1 + (((⟨3, ![1, 2, 1]⟩ : Shape).rowMajor.symm n) 2).val - 0 < 256
      rw [hw 2]; simp

/-- The sum over a window of 4 rows. -/
theorem pool4 (x : FVec Ideal S128x11x256 .f32) (v : FVec Ideal S_ .f32) (hv : ∀ i, v i = 0)
    (b : Fin 128) (t : Fin 8) (c : Fin 256) :
    Host.reduceWindowAdd ![1, 4, 1] ![1, 1, 1] ![0, 0, 0] ![0, 0, 0] x v
      reduceWindows_S128x11x256_S128x8x256_w1s1p0_0_w4s1p0_0_w1s1p0_0 h_S_ (ix3 b t c)
      = ∑ n : Fin 4, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 4, 1]⟩ : Shape).numel) _ 0).trans ?_
  rw [zero_add]
  refine Finset.sum_congr rfl fun n _ => ?_
  have hW : ∀ n : Fin 4, ∀ a : Fin 3,
      (((⟨3, ![1, 4, 1]⟩ : Shape).rowMajor.symm n) a).val = ![0, n.val, 0] a := by decide +kernel
  have hw := hW n
  rw [dif_pos]
  · congr 1
    funext a
    fin_cases a <;> apply Fin.ext
    · show b.val * 1 + (((⟨3, ![1, 4, 1]⟩ : Shape).rowMajor.symm n) 0).val - 0 = b.val
      rw [hw 0]; simp
    · show t.val * 1 + (((⟨3, ![1, 4, 1]⟩ : Shape).rowMajor.symm n) 1).val - 0 = t.val + n.val
      rw [hw 1]; simp
    · show c.val * 1 + (((⟨3, ![1, 4, 1]⟩ : Shape).rowMajor.symm n) 2).val - 0 = c.val
      rw [hw 2]; simp
  · intro a
    refine ⟨by fin_cases a <;> exact Nat.zero_le _, ?_⟩
    fin_cases a
    · show b.val * 1 + (((⟨3, ![1, 4, 1]⟩ : Shape).rowMajor.symm n) 0).val - 0 < 128
      rw [hw 0]; simp
    · show t.val * 1 + (((⟨3, ![1, 4, 1]⟩ : Shape).rowMajor.symm n) 1).val - 0 < 11
      rw [hw 1]; simp; omega
    · show c.val * 1 + (((⟨3, ![1, 4, 1]⟩ : Shape).rowMajor.symm n) 2).val - 0 < 256
      rw [hw 2]; simp

/-- The sum over a window of 8 rows. -/
theorem pool8 (x : FVec Ideal S128x15x256 .f32) (v : FVec Ideal S_ .f32) (hv : ∀ i, v i = 0)
    (b : Fin 128) (t : Fin 8) (c : Fin 256) :
    Host.reduceWindowAdd ![1, 8, 1] ![1, 1, 1] ![0, 0, 0] ![0, 0, 0] x v
      reduceWindows_S128x15x256_S128x8x256_w1s1p0_0_w8s1p0_0_w1s1p0_0 h_S_ (ix3 b t c)
      = ∑ n : Fin 8, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 8, 1]⟩ : Shape).numel) _ 0).trans ?_
  rw [zero_add]
  refine Finset.sum_congr rfl fun n _ => ?_
  have hW : ∀ n : Fin 8, ∀ a : Fin 3,
      (((⟨3, ![1, 8, 1]⟩ : Shape).rowMajor.symm n) a).val = ![0, n.val, 0] a := by decide +kernel
  have hw := hW n
  rw [dif_pos]
  · congr 1
    funext a
    fin_cases a <;> apply Fin.ext
    · show b.val * 1 + (((⟨3, ![1, 8, 1]⟩ : Shape).rowMajor.symm n) 0).val - 0 = b.val
      rw [hw 0]; simp
    · show t.val * 1 + (((⟨3, ![1, 8, 1]⟩ : Shape).rowMajor.symm n) 1).val - 0 = t.val + n.val
      rw [hw 1]; simp
    · show c.val * 1 + (((⟨3, ![1, 8, 1]⟩ : Shape).rowMajor.symm n) 2).val - 0 = c.val
      rw [hw 2]; simp
  · intro a
    refine ⟨by fin_cases a <;> exact Nat.zero_le _, ?_⟩
    fin_cases a
    · show b.val * 1 + (((⟨3, ![1, 8, 1]⟩ : Shape).rowMajor.symm n) 0).val - 0 < 128
      rw [hw 0]; simp
    · show t.val * 1 + (((⟨3, ![1, 8, 1]⟩ : Shape).rowMajor.symm n) 1).val - 0 < 15
      rw [hw 1]; simp; omega
    · show c.val * 1 + (((⟨3, ![1, 8, 1]⟩ : Shape).rowMajor.symm n) 2).val - 0 < 256
      rw [hw 2]; simp

/-- The sum over a window of 16 rows. -/
theorem pool16 (x : FVec Ideal S128x23x256 .f32) (v : FVec Ideal S_ .f32) (hv : ∀ i, v i = 0)
    (b : Fin 128) (t : Fin 8) (c : Fin 256) :
    Host.reduceWindowAdd ![1, 16, 1] ![1, 1, 1] ![0, 0, 0] ![0, 0, 0] x v
      reduceWindows_S128x23x256_S128x8x256_w1s1p0_0_w16s1p0_0_w1s1p0_0 h_S_ (ix3 b t c)
      = ∑ n : Fin 16, x (ix3 b ⟨t.val + n.val, by omega⟩ c) := by
  unfold Host.reduceWindowAdd
  simp only [FloatOps.hostReduceWindowAdd]
  unfold Ideal.hostReduceWindowAdd Host.reduceWindow
  rw [hv]
  refine (foldl_add (N := (⟨3, ![1, 16, 1]⟩ : Shape).numel) _ 0).trans ?_
  rw [zero_add]
  refine Finset.sum_congr rfl fun n _ => ?_
  have hW : ∀ n : Fin 16, ∀ a : Fin 3,
      (((⟨3, ![1, 16, 1]⟩ : Shape).rowMajor.symm n) a).val = ![0, n.val, 0] a := by decide +kernel
  have hw := hW n
  rw [dif_pos]
  · congr 1
    funext a
    fin_cases a <;> apply Fin.ext
    · show b.val * 1 + (((⟨3, ![1, 16, 1]⟩ : Shape).rowMajor.symm n) 0).val - 0 = b.val
      rw [hw 0]; simp
    · show t.val * 1 + (((⟨3, ![1, 16, 1]⟩ : Shape).rowMajor.symm n) 1).val - 0 = t.val + n.val
      rw [hw 1]; simp
    · show c.val * 1 + (((⟨3, ![1, 16, 1]⟩ : Shape).rowMajor.symm n) 2).val - 0 = c.val
      rw [hw 2]; simp
  · intro a
    refine ⟨by fin_cases a <;> exact Nat.zero_le _, ?_⟩
    fin_cases a
    · show b.val * 1 + (((⟨3, ![1, 16, 1]⟩ : Shape).rowMajor.symm n) 0).val - 0 < 128
      rw [hw 0]; simp
    · show t.val * 1 + (((⟨3, ![1, 16, 1]⟩ : Shape).rowMajor.symm n) 1).val - 0 < 23
      rw [hw 1]; simp; omega
    · show c.val * 1 + (((⟨3, ![1, 16, 1]⟩ : Shape).rowMajor.symm n) 2).val - 0 < 256
      rw [hw 2]; simp

end Cert.Reference2Ideal.Rf
-- ==== Proof.Ref2.lean ====
module

public import Idealize.ShloMosaic.Lib.Tactic.CleanTypes
public import proofs.«01_k».proof.Proof.Pool2
public import proofs.«01_k».proof.Proof.Spec

@[expose] public section

set_option maxRecDepth 16384

/-! The reference's stages, each read at an index as the layer's mathematics at that position. -/

noncomputable section
open Idealize.ShloMosaic Idealize.ShloMosaic.TcCoe Idealize.SL.Sem Idealize.ShloMosaic.StableHlo
open Cert.Spec
namespace Cert.Reference2Ideal.Rf
open Cert.Reference2Ideal Cert.Reference2Ideal.Gen Cert.Reference2Ideal.Value

variable (V0 : Valuation τ sig (Elt Ideal))

/-- The weights, read from the arguments. -/
def wtsR : Wts where
  gMix k := (show FVec Ideal S1x1024 .f32 from V0 (Proc.devRef .tc main_arg4)) (ix2 0 k)
  wIn k n := (show FVec Ideal S1x1024x6144 .f32 from V0 (Proc.devRef .tc main_arg5)) (ix3 0 k n)
  wConv j k := (show FVec Ideal S1x3x1024 .f32 from V0 (Proc.devRef .tc main_arg6)) (ix3 0 j k)
  wOc k d := (show FVec Ideal S1x1024x1024 .f32 from V0 (Proc.devRef .tc main_arg7)) (ix3 0 k d)
  wPool g x e := (show FVec Ideal S1x4x256x256 .f32 from V0 (Proc.devRef .tc main_arg8)) (ix4 0 g x e)
  pSc k := (show FVec Ideal S1x1024 .f32 from V0 (Proc.devRef .tc main_arg9)) (ix2 0 k)
  wO k d := (show FVec Ideal S1x1024x1024 .f32 from V0 (Proc.devRef .tc main_arg10)) (ix3 0 k d)
  gMlp k := (show FVec Ideal S1x1024 .f32 from V0 (Proc.devRef .tc main_arg11)) (ix2 0 k)
  wUp k f := (show FVec Ideal S1x1024x4096 .f32 from V0 (Proc.devRef .tc main_arg12)) (ix3 0 k f)
  wDown f d := (show FVec Ideal S1x4096x1024 .f32 from V0 (Proc.devRef .tc main_arg13)) (ix3 0 f d)
  gPle k := (show FVec Ideal S1x1024 .f32 from V0 (Proc.devRef .tc main_arg14)) (ix2 0 k)
  wPg k d := (show FVec Ideal S1x1024x1024 .f32 from V0 (Proc.devRef .tc main_arg15)) (ix3 0 k d)
  wPp q d := (show FVec Ideal S1x256x1024 .f32 from V0 (Proc.devRef .tc main_arg16)) (ix3 0 q d)
  gFin k := (show FVec Ideal S1024 .f32 from V0 (Proc.devRef .tc main_arg17)) (ix1 k)

/-- The input row of a position. -/
def xR (b : Fin 128) (t : Fin 8) (k : Fin 1024) : EReal :=
  (show FVec Ideal S128x8x1024 .f32 from V0 (Proc.devRef .tc main_arg0)) (ix3 b t k)

/-- The per-layer embedding row of a position. -/
def pR (b : Fin 128) (t : Fin 8) (k : Fin 256) : EReal :=
  (show FVec Ideal S1x128x8x256 .f32 from V0 (Proc.devRef .tc main_arg1)) (ix4 0 b t k)

/-- The convolution's input `j` positions back. -/
def usR (b : Fin 128) (t : Fin 8) (j : ℕ) (d : Fin 1024) : EReal :=
  (show FVec Ideal S128x10x1024 .f32 from res_main_v37 V0) (ix3 b ⟨2 + t.val - j, by omega⟩ d)

/-- The pooling branch's input `j` positions back. -/
def vsR (b : Fin 128) (t : Fin 8) (j : ℕ) (d : Fin 1024) : EReal :=
  (show FVec Ideal S128x23x1024 .f32 from res_main_v67 V0) (ix3 b ⟨15 + t.val - j, by omega⟩ d)

/-- A position, as the reference counts it. -/
def posR (t : Fin 8) : EReal := (show FVec Ideal S8 .f32 from res_main_v71 V0) (ix1 t)

theorem z_row (b : Fin 128) (t : Fin 8) (n : Fin 6144) :
    (show FVec Ideal S128x8x6144 .f32 from res_main_v15 V0) (ix3 b t n) = zRow (wtsR V0) (xR V0 b t) n := by
  unfold res_main_v15 zRow nrm wtsR xR
  clean_types
  pointwise

theorem v_row (b : Fin 128) (t : Fin 8) (d : Fin 1024) :
    (show FVec Ideal S128x8x1024 .f32 from res_main_v19 V0) (ix3 b t d) = vRow (wtsR V0) (xR V0 b t) d := by
  unfold res_main_v19 vRow
  rw [← z_row]
  clean_types
  pointwise

theorem v_cur (b : Fin 128) (t : Fin 8) (d : Fin 1024) :
    (show FVec Ideal S128x8x1024 .f32 from res_main_v19 V0) (ix3 b t d) = vsR V0 b t 0 d := by
  unfold vsR res_main_v67
  clean_types
  pointwise

/-- The windowed sum of a pooling group of 2 rows. -/
theorem win2 (b : Fin 128) (t : Fin 8) (c : Fin 256) :
    Host.reduceWindowAdd (F := Ideal) (φ := .f32) ![1, 2, 1] ![1, 1, 1] ![0, 0, 0] ![0, 0, 0]
      (extractStridedSlice S128x9x256 ![0, 14, 0] (res_main_v67 V0) slices_S128x23x1024_S128x9x256_0_14_0)
      (broadcastInDim S_ ![] bcast_S_S_ (constant S_ .f32 0x00000000#32))
      reduceWindows_S128x9x256_S128x8x256_w1s1p0_0_w2s1p0_0_w1s1p0_0 h_S_ (ix3 b t c)
      = win 2 (vsR V0 b t) ⟨0 + c.val, by omega⟩ := by
  rw [pool2 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 4 rows. -/
theorem win4 (b : Fin 128) (t : Fin 8) (c : Fin 256) :
    Host.reduceWindowAdd (F := Ideal) (φ := .f32) ![1, 4, 1] ![1, 1, 1] ![0, 0, 0] ![0, 0, 0]
      (extractStridedSlice S128x11x256 ![0, 12, 256] (res_main_v67 V0) slices_S128x23x1024_S128x11x256_0_12_256)
      (broadcastInDim S_ ![] bcast_S_S_ (constant S_ .f32 0x00000000#32))
      reduceWindows_S128x11x256_S128x8x256_w1s1p0_0_w4s1p0_0_w1s1p0_0 h_S_ (ix3 b t c)
      = win 4 (vsR V0 b t) ⟨256 + c.val, by omega⟩ := by
  rw [pool4 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 8 rows. -/
theorem win8 (b : Fin 128) (t : Fin 8) (c : Fin 256) :
    Host.reduceWindowAdd (F := Ideal) (φ := .f32) ![1, 8, 1] ![1, 1, 1] ![0, 0, 0] ![0, 0, 0]
      (extractStridedSlice S128x15x256 ![0, 8, 512] (res_main_v67 V0) slices_S128x23x1024_S128x15x256_0_8_512)
      (broadcastInDim S_ ![] bcast_S_S_ (constant S_ .f32 0x00000000#32))
      reduceWindows_S128x15x256_S128x8x256_w1s1p0_0_w8s1p0_0_w1s1p0_0 h_S_ (ix3 b t c)
      = win 8 (vsR V0 b t) ⟨512 + c.val, by omega⟩ := by
  rw [pool8 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

/-- The windowed sum of a pooling group of 16 rows. -/
theorem win16 (b : Fin 128) (t : Fin 8) (c : Fin 256) :
    Host.reduceWindowAdd (F := Ideal) (φ := .f32) ![1, 16, 1] ![1, 1, 1] ![0, 0, 0] ![0, 0, 0]
      (extractStridedSlice S128x23x256 ![0, 0, 768] (res_main_v67 V0) slices_S128x23x1024_S128x23x256_0_0_768)
      (broadcastInDim S_ ![] bcast_S_S_ (constant S_ .f32 0x00000000#32))
      reduceWindows_S128x23x256_S128x8x256_w1s1p0_0_w16s1p0_0_w1s1p0_0 h_S_ (ix3 b t c)
      = win 16 (vsR V0 b t) ⟨768 + c.val, by omega⟩ := by
  rw [pool16 _ _ (fun i => by pointwise), win, ← Finset.sum_range_reflect, Finset.sum_range]
  refine Finset.sum_congr rfl fun n _ => ?_
  unfold vsR
  clean_types
  pointwise
  congr 2
  all_goals first
    | (apply Fin.ext; simp only []; omega)
    | skip

theorem u_at2 (b : Fin 128) (t : Fin 8) (d : Fin 1024) (h : 2 + t.val < 10) :
    (show FVec Ideal S128x10x1024 .f32 from res_main_v37 V0) (ix3 b ⟨2 + t.val, h⟩ d) = usR V0 b t 0 d := rfl

theorem u_at1 (b : Fin 128) (t : Fin 8) (d : Fin 1024) (h : 1 + t.val < 10) :
    (show FVec Ideal S128x10x1024 .f32 from res_main_v37 V0) (ix3 b ⟨1 + t.val, h⟩ d) = usR V0 b t 1 d := by
  unfold usR
  congr 2
  apply Fin.ext
  show 1 + t.val = 2 + t.val - 1
  omega

theorem u_at0 (b : Fin 128) (t : Fin 8) (d : Fin 1024) (h : t.val < 10) :
    (show FVec Ideal S128x10x1024 .f32 from res_main_v37 V0) (ix3 b ⟨t.val, h⟩ d) = usR V0 b t 2 d := by
  unfold usR
  congr 2
  apply Fin.ext
  show t.val = 2 + t.val - 2
  omega

end Cert.Reference2Ideal.Rf
-- ==== Proof.RefMix2.lean ====
module

public import proofs.«01_k».proof.Proof.PoolKey
public import proofs.«01_k».proof.Proof.Ref2

@[expose] public section

set_option maxRecDepth 16384

/-! The reference's later stages and its results, each the layer's mathematics at that position. -/

noncomputable section
open Idealize.ShloMosaic Idealize.ShloMosaic.TcCoe Idealize.SL.Sem Idealize.ShloMosaic.StableHlo
open Cert.Spec
namespace Cert.Reference2Ideal.Rf
open Cert.Reference2Ideal Cert.Reference2Ideal.Gen Cert.Reference2Ideal.Value

variable (V0 : Valuation τ sig (Elt Ideal))

set_option maxHeartbeats 1600000 in
theorem mrg_row (b : Fin 128) (t : Fin 8) (d : Fin 1024) :
    (show FVec Ideal S128x8x1024 .f32 from res_main_v124 V0) (ix3 b t d)
      = mrgRow (wtsR V0) (xR V0 b t) (usR V0 b t) (vsR V0 b t) (posR V0 t) d := by
  unfold res_main_v124
  clean_types
  pointwise
  simp only [win2 V0, win4 V0, win8 V0, win16 V0]
  unfold mrgRow
  refine congrArg₂ (· + ·) (congrArg₂ (· * ·) ?_ ?_) (congrArg₂ (· * ·) ?_ ?_)
  · rw [← z_row]
    rfl
  · unfold yaRow
    refine Finset.sum_congr rfl fun x _ => ?_
    rw [← z_row, ← u_at2 V0 b t x (by omega), ← u_at1 V0 b t x (by omega), ← u_at0 V0 b t x (by omega)]
    unfold wtsR res_main_v35
    clean_types
    pointwise
  · rw [← z_row]
    rfl
  · unfold ybRow
    refine congrArg₂ (· * ·) ?_ rfl
    rw [← pool_key]
    refine Finset.sum_congr rfl fun x _ => ?_
    refine congrArg₂ (· * ·) rfl (congrArg₂ (· - ·) rfl ?_)
    exact v_cur V0 b t _

end Cert.Reference2Ideal.Rf
-- ==== Proof.RefOut2.lean ====
module

public import proofs.«01_k».proof.Proof.Ref2

@[expose] public section

set_option maxRecDepth 16384

/-! The reference's later stages and its results, each the layer's mathematics at that position. -/

noncomputable section
open Idealize.ShloMosaic Idealize.ShloMosaic.TcCoe Idealize.SL.Sem Idealize.ShloMosaic.StableHlo
open Cert.Spec
namespace Cert.Reference2Ideal.Rf
open Cert.Reference2Ideal Cert.Reference2Ideal.Gen Cert.Reference2Ideal.Value

variable (V0 : Valuation τ sig (Elt Ideal))

theorem h_row (b : Fin 128) (t : Fin 8) (d : Fin 1024)
    (hm : ∀ e, (show FVec Ideal S128x8x1024 .f32 from res_main_v124 V0) (ix3 b t e)
      = mrgRow (wtsR V0) (xR V0 b t) (usR V0 b t) (vsR V0 b t) (posR V0 t) e) :
    (show FVec Ideal S128x8x1024 .f32 from res_main_v127 V0) (ix3 b t d)
      = hRow (wtsR V0) (xR V0 b t) (usR V0 b t) (vsR V0 b t) (posR V0 t) d := by
  unfold res_main_v127 hRow
  simp only [← hm]
  unfold wtsR xR
  clean_types
  pointwise

/-- The rows of a stage, as functions. -/
def hR (b : Fin 128) (t : Fin 8) (d : Fin 1024) : EReal :=
  (show FVec Ideal S128x8x1024 .f32 from res_main_v127 V0) (ix3 b t d)

def mR (b : Fin 128) (t : Fin 8) (d : Fin 1024) : EReal :=
  (show FVec Ideal S128x8x1024 .f32 from res_main_v148 V0) (ix3 b t d)

def eR (b : Fin 128) (t : Fin 8) (d : Fin 1024) : EReal :=
  (show FVec Ideal S128x8x1024 .f32 from res_main_v175 V0) (ix3 b t d)

theorem m_row (b : Fin 128) (t : Fin 8) (d : Fin 1024) :
    mR V0 b t d = mlpRow (wtsR V0) (hR V0 b t) d := by
  unfold mR res_main_v148 mlpRow mlpTerm nrm hR wtsR
  clean_types
  pointwise
  unfold res_main_v144
  clean_types
  pointwise

theorem e_row (b : Fin 128) (t : Fin 8) (d : Fin 1024) :
    eR V0 b t d = pleRow (wtsR V0) (mR V0 b t) (pR V0 b t) d := by
  unfold eR res_main_v175 pleRow nrm mR wtsR pR
  clean_types
  pointwise
  rfl

theorem y_row (b : Fin 128) (t : Fin 8) (d : Fin 1024) :
    (show FVec Ideal S128x8x1024 .f32 from val4 V0 (Proc.devRef .tc main_v188)) (ix3 b t d)
      = nrm (wtsR V0).gFin (eR V0 b t) d := by
  rw [val4_main_v188]
  unfold nrm eR wtsR
  clean_types
  pointwise

end Cert.Reference2Ideal.Rf
-- ==== Proof.RefEnd2.lean ====
module

public import proofs.«01_k».proof.Proof.RefMix2
public import proofs.«01_k».proof.Proof.RefOut2
public import proofs.«01_k».proof.Proof.PoolKey

@[expose] public section

/-! The reference's three results, as the layer's mathematics of the arguments. -/

set_option maxRecDepth 16384

noncomputable section

open Idealize.ShloMosaic Idealize.ShloMosaic.TcCoe Idealize.SL.Sem Idealize.ShloMosaic.StableHlo
open Cert.Spec

namespace Cert.Reference2Ideal.Rf

open Cert.Reference2Ideal Cert.Reference2Ideal.Gen Cert.Reference2Ideal.Value

variable (V0 : Valuation τ sig (Elt Ideal))

/-- The convolution's history of a sequence: two rows of state, then its own. -/
def uHist (b : Fin 128) (r : ℕ) (d : Fin 1024) : EReal :=
  if h : r < 2 then (show FVec Ideal S1x128x2x1024 .f32 from V0 (Proc.devRef .tc main_arg2)) (ix4 0 b ⟨r, h⟩ d)
  else if h : r - 2 < 8 then uRow (wtsR V0) (xR V0 b ⟨r - 2, h⟩) d else 0

/-- The pooling branch's history of a sequence: fifteen rows of state, then its own. -/
def vHist (b : Fin 128) (r : ℕ) (d : Fin 1024) : EReal :=
  if h : r < 15 then (show FVec Ideal S1x128x15x1024 .f32 from V0 (Proc.devRef .tc main_arg3)) (ix4 0 b ⟨r, h⟩ d)
  else if h : r - 15 < 8 then vRow (wtsR V0) (xR V0 b ⟨r - 15, h⟩) d else 0

theorem u_at (b : Fin 128) (r : Fin 10) (d : Fin 1024) :
    (show FVec Ideal S128x10x1024 .f32 from res_main_v37 V0) (ix3 b r d) = uHist V0 b r.val d := by
  unfold uHist uRow res_main_v37
  simp only [← z_row]
  clean_types
  pointwise
  have hr := r.isLt
  by_cases h : r.val < 2
  · simp only [h, ↓reduceDIte]
  · have h' : r.val - 2 < 8 := by omega
    simp only [h, h', ↓reduceDIte]

theorem v_at (b : Fin 128) (r : Fin 23) (d : Fin 1024) :
    (show FVec Ideal S128x23x1024 .f32 from res_main_v67 V0) (ix3 b r d) = vHist V0 b r.val d := by
  unfold vHist res_main_v67
  simp only [← v_row]
  clean_types
  pointwise
  have hr := r.isLt
  by_cases h : r.val < 15
  · simp only [h, ↓reduceDIte]
  · have h' : r.val - 15 < 8 := by omega
    simp only [h, h', ↓reduceDIte]

theorem pos_at (t : Fin 8) :
    posR V0 t = FloatOps.sitofp (F := Ideal) .f32 (IntOp.addi 16384#32 (BitVec.ofNat 32 t.val)) := by
  unfold posR res_main_v71
  clean_types
  pointwise

/-- The first result at a position. -/
theorem y_all (b : Fin 128) (t : Fin 8) (d : Fin 1024) :
    (show FVec Ideal S128x8x1024 .f32 from val4 V0 (Proc.devRef .tc main_v188)) (ix3 b t d)
      = yRow (wtsR V0) (xR V0 b t) (fun j => uHist V0 b (2 + t.val - j)) (fun j => vHist V0 b (15 + t.val - j))
          (FloatOps.sitofp (F := Ideal) .f32 (IntOp.addi 16384#32 (BitVec.ofNat 32 t.val))) (pR V0 b t) d := by
  rw [y_row, show eR V0 b t = pleRow (wtsR V0) (mR V0 b t) (pR V0 b t) from funext fun d => e_row V0 b t d,
    show mR V0 b t = mlpRow (wtsR V0) (hR V0 b t) from funext fun d => m_row V0 b t d,
    show hR V0 b t = hRow (wtsR V0) (xR V0 b t) (usR V0 b t) (vsR V0 b t) (posR V0 t) from
      funext fun d => h_row V0 b t d fun e => mrg_row V0 b t e]
  refine congrFun (yRow_congr _ _ _ ?_ ?_ (pos_at V0 t)) d
  · intro j hj
    funext e
    exact u_at V0 b _ e
  · intro j hj
    funext e
    exact v_at V0 b _ e

/-- The second result, the convolution's last two rows. -/
theorem conv_all (b : Fin 128) (l : Fin 2) (d : Fin 1024) :
    (show FVec Ideal S128x2x1024 .f32 from val4 V0 (Proc.devRef .tc main_v191)) (ix3 b l d) = uHist V0 b (8 + l.val) d := by
  rw [val4_main_v191]
  refine Eq.trans ?_ (u_at V0 b ⟨8 + l.val, by omega⟩ d)
  clean_types
  pointwise

/-- The third result, the pooling branch's last fifteen rows. -/
theorem pool_all (b : Fin 128) (l : Fin 15) (d : Fin 1024) :
    (show FVec Ideal S128x15x1024 .f32 from val4 V0 (Proc.devRef .tc main_v192)) (ix3 b l d) = vHist V0 b (8 + l.val) d := by
  rw [val4_main_v192]
  refine Eq.trans ?_ (v_at V0 b ⟨8 + l.val, by omega⟩ d)
  clean_types
  pointwise

end Cert.Reference2Ideal.Rf
-- ==== Proof.Blk2.lean ====
module

public import proofs.«01_k».proof.Proof.Gen.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Blk

open Cert.Kernel2Ideal Cert.Kernel2Ideal.Gen

/-! The sample kernel's stored terms in named parts. -/

/-- A read from what a list of stores left is the rectangle of their canonical contents. -/
theorem readCov_ld {sig : RefSig} {κ : Kind} {sp : Space} {s : Shape} {e : EltTy} (v : View sig κ sp s e)
    (L : List (View.Piece (Elt Ideal) s e)) (r : Rect s) :
    v.readCov L r.toLoadRect = View.ld (View.canon L) r := View.readCov_eq_canon' v L r.toLoadRect

/-- The tile's convolution input. -/
def uTile (x0 : Vec Ideal S32x8x1024 .f32) (x4 : Vec Ideal S1x1024 .f32) (x5 : Vec Ideal S1024x6144 .bf16) : Vec Ideal S32x8x1024 .f32 :=
  k0_pay8 (k0_pay5 x0 x4) (k0_pay7 (View.ld x5 (Rect.unit ![0, 1024] ![1024, 1024] inb_S1024x6144_S1024x1024_0_1024))) (constant S256x1024 FTy.f32 0#32) (View.ld x5 (Rect.unit ![0, 2048] ![1024, 1024] inb_S1024x6144_S1024x1024_0_2048))

/-- The tile's pooling input. -/
def vTile (x0 : Vec Ideal S32x8x1024 .f32) (x4 : Vec Ideal S1x1024 .f32) (x5 : Vec Ideal S1024x6144 .bf16) : Vec Ideal S32x8x1024 .f32 :=
  k0_pay10 (k0_pay5 x0 x4) (View.ld x5 (Rect.unit ![0, 3072] ![1024, 1024] inb_S1024x6144_S1024x1024_0_3072))
theorem uTile_def (x0 : Vec Ideal S32x8x1024 .f32) (x4 : Vec Ideal S1x1024 .f32) (x5 : Vec Ideal S1024x6144 .bf16) :
  k0_pay8 (k0_pay5 x0 x4) (k0_pay7 (View.ld x5 (Rect.unit ![0, 1024] ![1024, 1024] inb_S1024x6144_S1024x1024_0_1024))) (constant S256x1024 FTy.f32 0#32) (View.ld x5 (Rect.unit ![0, 2048] ![1024, 1024] inb_S1024x6144_S1024x1024_0_2048)) = uTile x0 x4 x5 := rfl
theorem vTile_def (x0 : Vec Ideal S32x8x1024 .f32) (x4 : Vec Ideal S1x1024 .f32) (x5 : Vec Ideal S1024x6144 .bf16) :
  k0_pay10 (k0_pay5 x0 x4) (View.ld x5 (Rect.unit ![0, 3072] ![1024, 1024] inb_S1024x6144_S1024x1024_0_3072)) = vTile x0 x4 x5 := rfl

/-- The scratch of convolution inputs: the halo below the tile's rows. -/
def EU (h : Vec Ideal S32x2x1024 .f32) (tl : Vec Ideal S32x8x1024 .f32) : Vec Ideal S32x16x1024 .f32 :=
  View.canon [⟨Rect.unit ![0, 8, 0] ![32, 8, 1024] inb_S32x16x1024_S32x8x1024_0_8_0, tl⟩,
    ⟨Rect.unit ![0, 6, 0] ![32, 2, 1024] inb_S32x16x1024_S32x2x1024_0_6_0, h⟩]

/-- The scratch of pooling inputs: the halo below the tile's rows. -/
def EV (h : Vec Ideal S32x15x1024 .f32) (tl : Vec Ideal S32x8x1024 .f32) : Vec Ideal S32x24x1024 .f32 :=
  View.canon [⟨Rect.unit ![0, 16, 0] ![32, 8, 1024] inb_S32x24x1024_S32x8x1024_0_16_0, tl⟩,
    ⟨Rect.unit ![0, 1, 0] ![32, 15, 1024] inb_S32x24x1024_S32x15x1024_0_1_0, h⟩]
theorem EU_def (h : Vec Ideal S32x2x1024 .f32) (tl : Vec Ideal S32x8x1024 .f32) :
  View.canon [⟨Rect.unit ![0, 8, 0] ![32, 8, 1024] inb_S32x16x1024_S32x8x1024_0_8_0, tl⟩,
    ⟨Rect.unit ![0, 6, 0] ![32, 2, 1024] inb_S32x16x1024_S32x2x1024_0_6_0, h⟩] = EU h tl := rfl
theorem EV_def (h : Vec Ideal S32x15x1024 .f32) (tl : Vec Ideal S32x8x1024 .f32) :
  View.canon [⟨Rect.unit ![0, 16, 0] ![32, 8, 1024] inb_S32x24x1024_S32x8x1024_0_16_0, tl⟩,
    ⟨Rect.unit ![0, 1, 0] ![32, 15, 1024] inb_S32x24x1024_S32x15x1024_0_1_0, h⟩] = EV h tl := rfl

/-- A block of 1024 columns of the input projection. -/
def LW (x : Vec Ideal S1024x6144 .bf16) (b : ℕ) {h : ∀ d, (![0, b] : Fin 2 → ℕ) d + S1024x1024.size d ≤ S1024x6144.size d} : Vec Ideal S1024x1024 .bf16 := View.ld x (Rect.unit (s := S1024x6144) ![0, b] ![1024, 1024] h)
theorem LW_def (x : Vec Ideal S1024x6144 .bf16) (b : ℕ) {h : ∀ d, (![0, b] : Fin 2 → ℕ) d + S1024x1024.size d ≤ S1024x6144.size d} : View.ld x (Rect.unit (s := S1024x6144) ![0, b] ![1024, 1024] h) = LW x b (h := h) := rfl

/-- A block of columns of the first MLP matrix. -/
def LUp (x : Vec Ideal S1024x4096 .bf16) (b : ℕ) {h : ∀ d, (![0, b] : Fin 2 → ℕ) d + S1024x1024.size d ≤ S1024x4096.size d} : Vec Ideal S1024x1024 .bf16 := View.ld x (Rect.unit (s := S1024x4096) ![0, b] ![1024, 1024] h)
theorem LUp_def (x : Vec Ideal S1024x4096 .bf16) (b : ℕ) {h : ∀ d, (![0, b] : Fin 2 → ℕ) d + S1024x1024.size d ≤ S1024x4096.size d} : View.ld x (Rect.unit (s := S1024x4096) ![0, b] ![1024, 1024] h) = LUp x b (h := h) := rfl

/-- A block of rows of the second MLP matrix. -/
def LDn (x : Vec Ideal S4096x1024 .bf16) (b : ℕ) {h : ∀ d, (![b, 0] : Fin 2 → ℕ) d + S1024x1024.size d ≤ S4096x1024.size d} : Vec Ideal S1024x1024 .bf16 := View.ld x (Rect.unit (s := S4096x1024) ![b, 0] ![1024, 1024] h)
theorem LDn_def (x : Vec Ideal S4096x1024 .bf16) (b : ℕ) {h : ∀ d, (![b, 0] : Fin 2 → ℕ) d + S1024x1024.size d ≤ S4096x1024.size d} : View.ld x (Rect.unit (s := S4096x1024) ![b, 0] ![1024, 1024] h) = LDn x b (h := h) := rfl

/-- One group's pooling matrix. -/
def LP (x : Vec Ideal S4x256x256 .bf16) (b : ℕ) {h : ∀ d, (![b, 0, 0] : Fin 3 → ℕ) d + S1x256x256.size d ≤ S4x256x256.size d} : Vec Ideal S1x256x256 .bf16 := View.ld x (Rect.unit (s := S4x256x256) ![b, 0, 0] ![1, 256, 256] h)
theorem LP_def (x : Vec Ideal S4x256x256 .bf16) (b : ℕ) {h : ∀ d, (![b, 0, 0] : Fin 3 → ℕ) d + S1x256x256.size d ≤ S4x256x256.size d} : View.ld x (Rect.unit (s := S4x256x256) ![b, 0, 0] ![1, 256, 256] h) = LP x b (h := h) := rfl

/-- The pooling inputs a number of rows back, one group's columns. -/
def LV (x : Vec Ideal S32x24x1024 .f32) (a b : ℕ) {h : ∀ d, (![0, a, b] : Fin 3 → ℕ) d + S32x8x256.size d ≤ S32x24x1024.size d} : Vec Ideal S32x8x256 .f32 := View.ld x (Rect.unit (s := S32x24x1024) ![0, a, b] ![32, 8, 256] h)
theorem LV_def (x : Vec Ideal S32x24x1024 .f32) (a b : ℕ) {h : ∀ d, (![0, a, b] : Fin 3 → ℕ) d + S32x8x256.size d ≤ S32x24x1024.size d} : View.ld x (Rect.unit (s := S32x24x1024) ![0, a, b] ![32, 8, 256] h) = LV x a b (h := h) := rfl

/-- The convolution inputs a number of rows back. -/
def LU (x : Vec Ideal S32x16x1024 .f32) (a : ℕ) {h : ∀ d, (![0, a, 0] : Fin 3 → ℕ) d + S32x8x1024.size d ≤ S32x16x1024.size d} : Vec Ideal S32x8x1024 .f32 := View.ld x (Rect.unit (s := S32x16x1024) ![0, a, 0] ![32, 8, 1024] h)
theorem LU_def (x : Vec Ideal S32x16x1024 .f32) (a : ℕ) {h : ∀ d, (![0, a, 0] : Fin 3 → ℕ) d + S32x8x1024.size d ≤ S32x16x1024.size d} : View.ld x (Rect.unit (s := S32x16x1024) ![0, a, 0] ![32, 8, 1024] h) = LU x a (h := h) := rfl

/-- The convolution branch of the tile. -/
def YA (x0 : Vec Ideal S32x8x1024 .f32) (x4 : Vec Ideal S1x1024 .f32) (x5 : Vec Ideal S1024x6144 .bf16) (x6 : Vec Ideal S3x1024 .f32) (x7 : Vec Ideal S1024x1024 .bf16) (U : Vec Ideal S32x16x1024 .f32) : Vec Ideal S256x1024 .f32 :=
  k0_pay9 (k0_pay6 x0 x4 (LW x5 0 (h := inb_S1024x6144_S1024x1024_0_0))) (LU U 6 (h := inb_S32x16x1024_S32x8x1024_0_6_0))
 (View.ld x6 (Rect.unit ![0, 0] ![1, 1024] inb_S3x1024_S1x1024_0_0)) (LU U 7 (h := inb_S32x16x1024_S32x8x1024_0_7_0))
 (View.ld x6 (Rect.unit ![1, 0] ![1, 1024] inb_S3x1024_S1x1024_1_0)) (LU U 8 (h := inb_S32x16x1024_S32x8x1024_0_8_0))
 (View.ld x6 (Rect.unit ![2, 0] ![1, 1024] inb_S3x1024_S1x1024_2_0)) x7

/-- The pooling branch of the tile. -/
def YB (x8 : Vec Ideal S4x256x256 .bf16) (x9 : Vec Ideal S1x1024 .f32) (V : Vec Ideal S32x24x1024 .f32) : Vec Ideal S256x1024 .f32 :=
  k0_pay18 k0_pay11 (k0_pay12 (LV V 16 0 (h := inb_S32x24x1024_S32x8x256_0_16_0)) (LV V 15 0 (h := inb_S32x24x1024_S32x8x256_0_15_0)) (LP x8 0 (h := inb_S4x256x256_S1x256x256_0_0_0)))
 (k0_pay14 k0_pay11 (LV V 16 256 (h := inb_S32x24x1024_S32x8x256_0_16_256)) (k0_pay13 (LV V 16 256 (h := inb_S32x24x1024_S32x8x256_0_16_256)) (LV V 15 256 (h := inb_S32x24x1024_S32x8x256_0_15_256)) (LV V 14 256 (h := inb_S32x24x1024_S32x8x256_0_14_256))) (LV V 13 256 (h := inb_S32x24x1024_S32x8x256_0_13_256)) (LP x8 1 (h := inb_S4x256x256_S1x256x256_1_0_0)))
 (k0_pay16 k0_pay11 (LV V 16 512 (h := inb_S32x24x1024_S32x8x256_0_16_512))
 (k0_pay15 (LV V 16 512 (h := inb_S32x24x1024_S32x8x256_0_16_512)) (LV V 15 512 (h := inb_S32x24x1024_S32x8x256_0_15_512)) (LV V 14 512 (h := inb_S32x24x1024_S32x8x256_0_14_512)) (LV V 13 512 (h := inb_S32x24x1024_S32x8x256_0_13_512)) (LV V 12 512 (h := inb_S32x24x1024_S32x8x256_0_12_512)) (LV V 11 512 (h := inb_S32x24x1024_S32x8x256_0_11_512)) (LV V 10 512 (h := inb_S32x24x1024_S32x8x256_0_10_512)) (LV V 9 512 (h := inb_S32x24x1024_S32x8x256_0_9_512)))
 (FloatOps.ofBits FTy.f32 1065353216#32) (LP x8 2 (h := inb_S4x256x256_S1x256x256_2_0_0)))
 (LV V 16 768 (h := inb_S32x24x1024_S32x8x256_0_16_768))
 (k0_pay17 (LV V 16 768 (h := inb_S32x24x1024_S32x8x256_0_16_768)) (LV V 15 768 (h := inb_S32x24x1024_S32x8x256_0_15_768)) (LV V 14 768 (h := inb_S32x24x1024_S32x8x256_0_14_768)) (LV V 13 768 (h := inb_S32x24x1024_S32x8x256_0_13_768)) (LV V 12 768 (h := inb_S32x24x1024_S32x8x256_0_12_768)) (LV V 11 768 (h := inb_S32x24x1024_S32x8x256_0_11_768)) (LV V 10 768 (h := inb_S32x24x1024_S32x8x256_0_10_768)) (LV V 9 768 (h := inb_S32x24x1024_S32x8x256_0_9_768)) (LV V 8 768 (h := inb_S32x24x1024_S32x8x256_0_8_768)))
 (LV V 7 768 (h := inb_S32x24x1024_S32x8x256_0_7_768)) (LV V 6 768 (h := inb_S32x24x1024_S32x8x256_0_6_768)) (LV V 5 768 (h := inb_S32x24x1024_S32x8x256_0_5_768)) (LV V 4 768 (h := inb_S32x24x1024_S32x8x256_0_4_768)) (LV V 3 768 (h := inb_S32x24x1024_S32x8x256_0_3_768)) (LV V 2 768 (h := inb_S32x24x1024_S32x8x256_0_2_768)) (LV V 1 768 (h := inb_S32x24x1024_S32x8x256_0_1_768)) (LP x8 3 (h := inb_S4x256x256_S1x256x256_3_0_0)) x9
theorem YA_def (x0 : Vec Ideal S32x8x1024 .f32) (x4 : Vec Ideal S1x1024 .f32) (x5 : Vec Ideal S1024x6144 .bf16) (x6 : Vec Ideal S3x1024 .f32) (x7 : Vec Ideal S1024x1024 .bf16) (U : Vec Ideal S32x16x1024 .f32) : k0_pay9 (k0_pay6 x0 x4 (LW x5 0 (h := inb_S1024x6144_S1024x1024_0_0))) (LU U 6 (h := inb_S32x16x1024_S32x8x1024_0_6_0))
 (View.ld x6 (Rect.unit ![0, 0] ![1, 1024] inb_S3x1024_S1x1024_0_0)) (LU U 7 (h := inb_S32x16x1024_S32x8x1024_0_7_0))
 (View.ld x6 (Rect.unit ![1, 0] ![1, 1024] inb_S3x1024_S1x1024_1_0)) (LU U 8 (h := inb_S32x16x1024_S32x8x1024_0_8_0))
 (View.ld x6 (Rect.unit ![2, 0] ![1, 1024] inb_S3x1024_S1x1024_2_0)) x7 = YA x0 x4 x5 x6 x7 U := rfl
theorem YB_def (x8 : Vec Ideal S4x256x256 .bf16) (x9 : Vec Ideal S1x1024 .f32) (V : Vec Ideal S32x24x1024 .f32) : k0_pay18 k0_pay11 (k0_pay12 (LV V 16 0 (h := inb_S32x24x1024_S32x8x256_0_16_0)) (LV V 15 0 (h := inb_S32x24x1024_S32x8x256_0_15_0)) (LP x8 0 (h := inb_S4x256x256_S1x256x256_0_0_0)))
 (k0_pay14 k0_pay11 (LV V 16 256 (h := inb_S32x24x1024_S32x8x256_0_16_256)) (k0_pay13 (LV V 16 256 (h := inb_S32x24x1024_S32x8x256_0_16_256)) (LV V 15 256 (h := inb_S32x24x1024_S32x8x256_0_15_256)) (LV V 14 256 (h := inb_S32x24x1024_S32x8x256_0_14_256))) (LV V 13 256 (h := inb_S32x24x1024_S32x8x256_0_13_256)) (LP x8 1 (h := inb_S4x256x256_S1x256x256_1_0_0)))
 (k0_pay16 k0_pay11 (LV V 16 512 (h := inb_S32x24x1024_S32x8x256_0_16_512))
 (k0_pay15 (LV V 16 512 (h := inb_S32x24x1024_S32x8x256_0_16_512)) (LV V 15 512 (h := inb_S32x24x1024_S32x8x256_0_15_512)) (LV V 14 512 (h := inb_S32x24x1024_S32x8x256_0_14_512)) (LV V 13 512 (h := inb_S32x24x1024_S32x8x256_0_13_512)) (LV V 12 512 (h := inb_S32x24x1024_S32x8x256_0_12_512)) (LV V 11 512 (h := inb_S32x24x1024_S32x8x256_0_11_512)) (LV V 10 512 (h := inb_S32x24x1024_S32x8x256_0_10_512)) (LV V 9 512 (h := inb_S32x24x1024_S32x8x256_0_9_512)))
 (FloatOps.ofBits FTy.f32 1065353216#32) (LP x8 2 (h := inb_S4x256x256_S1x256x256_2_0_0)))
 (LV V 16 768 (h := inb_S32x24x1024_S32x8x256_0_16_768))
 (k0_pay17 (LV V 16 768 (h := inb_S32x24x1024_S32x8x256_0_16_768)) (LV V 15 768 (h := inb_S32x24x1024_S32x8x256_0_15_768)) (LV V 14 768 (h := inb_S32x24x1024_S32x8x256_0_14_768)) (LV V 13 768 (h := inb_S32x24x1024_S32x8x256_0_13_768)) (LV V 12 768 (h := inb_S32x24x1024_S32x8x256_0_12_768)) (LV V 11 768 (h := inb_S32x24x1024_S32x8x256_0_11_768)) (LV V 10 768 (h := inb_S32x24x1024_S32x8x256_0_10_768)) (LV V 9 768 (h := inb_S32x24x1024_S32x8x256_0_9_768)) (LV V 8 768 (h := inb_S32x24x1024_S32x8x256_0_8_768)))
 (LV V 7 768 (h := inb_S32x24x1024_S32x8x256_0_7_768)) (LV V 6 768 (h := inb_S32x24x1024_S32x8x256_0_6_768)) (LV V 5 768 (h := inb_S32x24x1024_S32x8x256_0_5_768)) (LV V 4 768 (h := inb_S32x24x1024_S32x8x256_0_4_768)) (LV V 3 768 (h := inb_S32x24x1024_S32x8x256_0_3_768)) (LV V 2 768 (h := inb_S32x24x1024_S32x8x256_0_2_768)) (LV V 1 768 (h := inb_S32x24x1024_S32x8x256_0_1_768)) (LP x8 3 (h := inb_S4x256x256_S1x256x256_3_0_0)) x9 = YB x8 x9 V := rfl

/-- The tile's output rows. -/
def YO (x0 : Vec Ideal S32x8x1024 .f32) (x1 : Vec Ideal S32x8x256 .f32) (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) : Vec Ideal S32x8x1024 .f32 :=
  k0_pay1 (k0_pay23 (k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) (k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) (LDn x13 3072 (h := inb_S4096x1024_S1024x1024_3072_0)) x14 x15 x1 x16) (k0_pay24 x17) (k0_pay25 (k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) (k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) (LDn x13 3072 (h := inb_S4096x1024_S1024x1024_3072_0)) x14 x15 x1 x16)

theorem YO_def (x0 : Vec Ideal S32x8x1024 .f32) (x1 : Vec Ideal S32x8x256 .f32) (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) :
  k0_pay1 (k0_pay23 (k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) (k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) (LDn x13 3072 (h := inb_S4096x1024_S1024x1024_3072_0)) x14 x15 x1 x16) (k0_pay24 x17) (k0_pay25 (k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) (k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) (LDn x13 3072 (h := inb_S4096x1024_S1024x1024_3072_0)) x14 x15 x1 x16) = YO x0 x1 x4 x5 x6 x7 x8 x9 x10 x11 x12 x13 x14 x15 x16 x17 U V := rfl

set_option maxHeartbeats 2000000 in
/-- The output tile of a step. -/
theorem out0_A_18_eq (c : Dev nD) (i : grid0.Coords) (arg1 : Memref sig .tc .vmem S32x8x1024 .f32) (harg1 : arg1.IsWhole) (arg2 : Memref sig .tc .vmem S32x8x256 .f32) (harg2 : arg2.IsWhole) (arg3 : Memref sig .tc .vmem S32x2x1024 .f32) (harg3 : arg3.IsWhole) (arg4 : Memref sig .tc .vmem S32x15x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S32x8x1024 .f32) (harg19 : arg19.IsWhole) (arg20 : Memref sig .tc .vmem S32x2x1024 .f32) (harg20 : arg20.IsWhole) (arg21 : Memref sig .tc .vmem S32x15x1024 .f32) (harg21 : arg21.IsWhole) (arg22 : Memref sig .tc .vmem S32x16x1024 .f32) (harg22 : arg22.IsWhole) (arg23 : Memref sig .tc .vmem S32x24x1024 .f32) (harg23 : arg23.IsWhole) (x0 : Vec Ideal S32x8x1024 .f32) (x1 : Vec Ideal S32x8x256 .f32) (x2 : Vec Ideal S32x2x1024 .f32) (x3 : Vec Ideal S32x15x1024 .f32) (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 = YO x0 x1 x4 x5 x6 x7 x8 x9 x10 x11 x12 x13 x14 x15 x16 x17 (EU (k0_pay2 x2) (uTile x0 x4 x5)) (EV (k0_pay3 x3) (vTile x0 x4 x5)) := by
  funext y
  frame_open
  frame_out
  simp only [readCov_ld, EU_def, EV_def, uTile_def, vTile_def]
  simp only [LW_def, LV_def, LU_def, LUp_def, LDn_def, LP_def, YA_def, YB_def, YO_def]

set_option maxHeartbeats 2000000 in
/-- The convolution states after a step. -/
theorem out0_A_19_eq (c : Dev nD) (i : grid0.Coords) (arg1 : Memref sig .tc .vmem S32x8x1024 .f32) (harg1 : arg1.IsWhole) (arg2 : Memref sig .tc .vmem S32x8x256 .f32) (harg2 : arg2.IsWhole) (arg3 : Memref sig .tc .vmem S32x2x1024 .f32) (harg3 : arg3.IsWhole) (arg4 : Memref sig .tc .vmem S32x15x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S32x8x1024 .f32) (harg19 : arg19.IsWhole) (arg20 : Memref sig .tc .vmem S32x2x1024 .f32) (harg20 : arg20.IsWhole) (arg21 : Memref sig .tc .vmem S32x15x1024 .f32) (harg21 : arg21.IsWhole) (arg22 : Memref sig .tc .vmem S32x16x1024 .f32) (harg22 : arg22.IsWhole) (arg23 : Memref sig .tc .vmem S32x24x1024 .f32) (harg23 : arg23.IsWhole) (x0 : Vec Ideal S32x8x1024 .f32) (x1 : Vec Ideal S32x8x256 .f32) (x2 : Vec Ideal S32x2x1024 .f32) (x3 : Vec Ideal S32x15x1024 .f32) (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 = View.ld (EU (k0_pay2 x2) (uTile x0 x4 x5)) (Rect.unit ![0, 14, 0] ![32, 2, 1024] inb_S32x16x1024_S32x2x1024_0_14_0) := by
  funext y
  frame_open
  frame_out
  simp only [readCov_ld, EU_def, EV_def, uTile_def, vTile_def]

set_option maxHeartbeats 2000000 in
/-- The pooling states after a step. -/
theorem out0_A_20_eq (c : Dev nD) (i : grid0.Coords) (arg1 : Memref sig .tc .vmem S32x8x1024 .f32) (harg1 : arg1.IsWhole) (arg2 : Memref sig .tc .vmem S32x8x256 .f32) (harg2 : arg2.IsWhole) (arg3 : Memref sig .tc .vmem S32x2x1024 .f32) (harg3 : arg3.IsWhole) (arg4 : Memref sig .tc .vmem S32x15x1024 .f32) (harg4 : arg4.IsWhole) (arg5 : Memref sig .tc .vmem S1x1024 .f32) (harg5 : arg5.IsWhole) (arg6 : Memref sig .tc .vmem S1024x6144 .bf16) (harg6 : arg6.IsWhole) (arg7 : Memref sig .tc .vmem S3x1024 .f32) (harg7 : arg7.IsWhole) (arg8 : Memref sig .tc .vmem S1024x1024 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S1024x4096 .bf16) (harg13 : arg13.IsWhole) (arg14 : Memref sig .tc .vmem S4096x1024 .bf16) (harg14 : arg14.IsWhole) (arg15 : Memref sig .tc .vmem S1x1024 .f32) (harg15 : arg15.IsWhole) (arg16 : Memref sig .tc .vmem S1024x1024 .bf16) (harg16 : arg16.IsWhole) (arg17 : Memref sig .tc .vmem S256x1024 .bf16) (harg17 : arg17.IsWhole) (arg18 : Memref sig .tc .vmem S1x1024 .f32) (harg18 : arg18.IsWhole) (arg19 : Memref sig .tc .vmem S32x8x1024 .f32) (harg19 : arg19.IsWhole) (arg20 : Memref sig .tc .vmem S32x2x1024 .f32) (harg20 : arg20.IsWhole) (arg21 : Memref sig .tc .vmem S32x15x1024 .f32) (harg21 : arg21.IsWhole) (arg22 : Memref sig .tc .vmem S32x16x1024 .f32) (harg22 : arg22.IsWhole) (arg23 : Memref sig .tc .vmem S32x24x1024 .f32) (harg23 : arg23.IsWhole) (x0 : Vec Ideal S32x8x1024 .f32) (x1 : Vec Ideal S32x8x256 .f32) (x2 : Vec Ideal S32x2x1024 .f32) (x3 : Vec Ideal S32x15x1024 .f32) (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 = View.ld (EV (k0_pay3 x3) (vTile x0 x4 x5)) (Rect.unit ![0, 9, 0] ![32, 15, 1024] inb_S32x24x1024_S32x15x1024_0_9_0) := by
  funext y
  frame_open
  frame_out
  simp only [readCov_ld, EU_def, EV_def, uTile_def, vTile_def]

end Cert.Kernel2Ideal.Blk
-- ==== Proof.Read2.lean ====
module

public import proofs.«01_k».proof.Proof.Blk2
public import proofs.«01_k».proof.Proof.Spec

@[expose] public section

/-! The sample kernel's named parts, read row by row as the layer's mathematics. -/

set_option maxRecDepth 16384

noncomputable section

open Idealize.ShloMosaic Idealize.ShloMosaic.TcCoe Idealize.SL.Sem
open Cert.Spec

namespace Cert.Kernel2Ideal.Blk

open Cert.Kernel2Ideal Cert.Kernel2Ideal.Gen

/-- The weights as a step's operands hold them. -/
def wts (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) : Wts where
  gMix k := x4 (ix2 0 k)
  wIn k n := x5 (ix2 k n)
  wConv j k := x6 (ix2 j k)
  wOc k n := x7 (ix2 k n)
  wPool g a b := x8 (ix3 g a b)
  pSc k := x9 (ix2 0 k)
  wO k n := x10 (ix2 k n)
  gMlp k := x11 (ix2 0 k)
  wUp k n := x12 (ix2 k n)
  wDown k n := x13 (ix2 k n)
  gPle k := x14 (ix2 0 k)
  wPg k n := x15 (ix2 k n)
  wPp k n := x16 (ix2 k n)
  gFin k := x17 (ix2 0 k)

theorem LW_at (x : Vec Ideal S1024x6144 .bf16) (b : ℕ) {h : ∀ d, (![0, b] : Fin 2 → ℕ) d + S1024x1024.size d ≤ S1024x6144.size d}
    (k n : Fin 1024) : LW x b (h := h) (ix2 k n) = x (ix2 k ⟨b + n.val, by have := h 1; simp at this; omega⟩) := by
  unfold LW
  rw [View.ld_apply]
  congr 1
  funext a
  fin_cases a <;> ext <;> simp

theorem LW_at0 (x : Vec Ideal S1024x6144 .bf16) {h : ∀ d, (![0, 0] : Fin 2 → ℕ) d + S1024x1024.size d ≤ S1024x6144.size d}
    (k n : Fin 1024) : LW x 0 (h := h) (ix2 k n) = x (ix2 k ⟨n.val, by omega⟩) := by
  unfold LW
  rw [View.ld_apply]
  congr 1
  funext a
  fin_cases a <;> ext <;> simp

theorem LUp_at (x : Vec Ideal S1024x4096 .bf16) (b : ℕ) {h : ∀ d, (![0, b] : Fin 2 → ℕ) d + S1024x1024.size d ≤ S1024x4096.size d}
    (k n : Fin 1024) : LUp x b (h := h) (ix2 k n) = x (ix2 k ⟨b + n.val, by have := h 1; simp at this; omega⟩) := by
  unfold LUp
  rw [View.ld_apply]
  congr 1
  funext a
  fin_cases a <;> ext <;> simp

theorem LUp_at0 (x : Vec Ideal S1024x4096 .bf16) {h : ∀ d, (![0, 0] : Fin 2 → ℕ) d + S1024x1024.size d ≤ S1024x4096.size d}
    (k n : Fin 1024) : LUp x 0 (h := h) (ix2 k n) = x (ix2 k ⟨n.val, by omega⟩) := by
  unfold LUp
  rw [View.ld_apply]
  congr 1
  funext a
  fin_cases a <;> ext <;> simp

theorem LDn_at (x : Vec Ideal S4096x1024 .bf16) (b : ℕ) {h : ∀ d, (![b, 0] : Fin 2 → ℕ) d + S1024x1024.size d ≤ S4096x1024.size d}
    (k n : Fin 1024) : LDn x b (h := h) (ix2 k n) = x (ix2 ⟨b + k.val, by have := h 0; simp at this; omega⟩ n) := by
  unfold LDn
  rw [View.ld_apply]
  congr 1
  funext a
  fin_cases a <;> ext <;> simp

theorem LDn_at0 (x : Vec Ideal S4096x1024 .bf16) {h : ∀ d, (![0, 0] : Fin 2 → ℕ) d + S1024x1024.size d ≤ S4096x1024.size d}
    (k n : Fin 1024) : LDn x 0 (h := h) (ix2 k n) = x (ix2 ⟨k.val, by omega⟩ n) := by
  unfold LDn
  rw [View.ld_apply]
  congr 1
  funext a
  fin_cases a <;> ext <;> simp

theorem LP_at (x : Vec Ideal S4x256x256 .bf16) (b : ℕ) {h : ∀ d, (![b, 0, 0] : Fin 3 → ℕ) d + S1x256x256.size d ≤ S4x256x256.size d}
    (k n : Fin 256) : LP x b (h := h) (ix3 0 k n) = x (ix3 ⟨b, by have := h 0; simp at this; omega⟩ k n) := by
  unfold LP
  rw [View.ld_apply]
  congr 1
  funext a
  fin_cases a <;> ext <;> simp

theorem conv_at (x : Vec Ideal S3x1024 .f32) (j : Fin 3) {h : ∀ d, (![j.val, 0] : Fin 2 → ℕ) d + S1x1024.size d ≤ S3x1024.size d}
    (k : Fin 1024) : (View.ld x (Rect.unit (s := S3x1024) ![j.val, 0] ![1, 1024] h) : Vec Ideal S1x1024 .f32) (ix2 0 k) = x (ix2 j k) := by
  rw [View.ld_apply]
  congr 1
  funext a
  fin_cases a <;> ext <;> simp

/-- The scratch's row `j` positions above row `l` of sequence `s`. -/
def usOf (U : Vec Ideal S32x16x1024 .f32) (s : Fin 32) (l : Fin 8) (j : ℕ) (d : Fin 1024) : EReal := U (ix3 s ⟨8 + l.val - j, by omega⟩ d)

/-- The scratch's row `j` positions above row `l` of sequence `s`. -/
def vsOf (V : Vec Ideal S32x24x1024 .f32) (s : Fin 32) (l : Fin 8) (j : ℕ) (d : Fin 1024) : EReal := V (ix3 s ⟨16 + l.val - j, by omega⟩ d)

/-- A row's position as the kernel computes it. -/
def posOf (l : Fin 8) : EReal := FloatOps.sitofp (F := Ideal) .f32 (IntOp.addi 16384#32 (BitVec.ofNat 32 l.val))

theorem LU_at (x : Vec Ideal S32x16x1024 .f32) (a : ℕ) {h : ∀ d, (![0, a, 0] : Fin 3 → ℕ) d + S32x8x1024.size d ≤ S32x16x1024.size d}
    (s : Fin 32) (l : Fin 8) (n : Fin 1024) : LU x a (h := h) (ix3 s l n) = usOf x s l (8 - a) n := by
  have h1 := h 1
  simp at h1
  unfold LU usOf
  rw [View.ld_apply]
  congr 1
  funext d
  fin_cases d <;> ext <;> simp
  omega

theorem LV_at (x : Vec Ideal S32x24x1024 .f32) (a b : ℕ) {h : ∀ d, (![0, a, b] : Fin 3 → ℕ) d + S32x8x256.size d ≤ S32x24x1024.size d}
    (s : Fin 32) (l : Fin 8) (n : Fin 256) : LV x a b (h := h) (ix3 s l n) = vsOf x s l (16 - a) ⟨b + n.val, by have := h 2; simp at this; omega⟩ := by
  have h1 := h 1
  simp at h1
  unfold LV vsOf
  rw [View.ld_apply]
  congr 1
  funext d
  fin_cases d <;> ext <;> simp
  omega

theorem EU_hi (h : Vec Ideal S32x2x1024 .f32) (tl : Vec Ideal S32x8x1024 .f32) (s : Fin 32) (r : Fin 8) (d : Fin 1024) :
    EU h tl (ix3 s ⟨8 + r.val, by omega⟩ d) = tl (ix3 s r d) := by
  unfold EU
  rw [show (ix3 s ⟨8 + r.val, by omega⟩ d : S32x16x1024.Idx) = (Rect.unit (s := S32x16x1024) ![0, 8, 0] ![32, 8, 1024] inb_S32x16x1024_S32x8x1024_0_8_0).emb (ix3 s r d) from by
    funext a
    fin_cases a <;> ext <;> simp]
  rw [View.canon_cons_emb]

theorem EU_lo (h : Vec Ideal S32x2x1024 .f32) (tl : Vec Ideal S32x8x1024 .f32) (s : Fin 32) (r : Fin 2) (d : Fin 1024) :
    EU h tl (ix3 s ⟨6 + r.val, by omega⟩ d) = h (ix3 s r d) := by
  unfold EU
  rw [View.canon_cons_of_not_mem]
  · rw [show (ix3 s ⟨6 + r.val, by omega⟩ d : S32x16x1024.Idx) = (Rect.unit (s := S32x16x1024) ![0, 6, 0] ![32, 2, 1024] inb_S32x16x1024_S32x2x1024_0_6_0).emb (ix3 s r d) from by
      funext a
      fin_cases a <;> ext <;> simp]
    rw [View.canon_cons_emb]
  · intro hm
    have := (Rect.mem_set_unit (inb := inb_S32x16x1024_S32x8x1024_0_8_0)).1 hm 1
    simp at this
    omega

theorem EV_hi (h : Vec Ideal S32x15x1024 .f32) (tl : Vec Ideal S32x8x1024 .f32) (s : Fin 32) (r : Fin 8) (d : Fin 1024) :
    EV h tl (ix3 s ⟨16 + r.val, by omega⟩ d) = tl (ix3 s r d) := by
  unfold EV
  rw [show (ix3 s ⟨16 + r.val, by omega⟩ d : S32x24x1024.Idx) = (Rect.unit (s := S32x24x1024) ![0, 16, 0] ![32, 8, 1024] inb_S32x24x1024_S32x8x1024_0_16_0).emb (ix3 s r d) from by
    funext a
    fin_cases a <;> ext <;> simp]
  rw [View.canon_cons_emb]

theorem EV_lo (h : Vec Ideal S32x15x1024 .f32) (tl : Vec Ideal S32x8x1024 .f32) (s : Fin 32) (r : Fin 15) (d : Fin 1024) :
    EV h tl (ix3 s ⟨1 + r.val, by omega⟩ d) = h (ix3 s r d) := by
  unfold EV
  rw [View.canon_cons_of_not_mem]
  · rw [show (ix3 s ⟨1 + r.val, by omega⟩ d : S32x24x1024.Idx) = (Rect.unit (s := S32x24x1024) ![0, 1, 0] ![32, 15, 1024] inb_S32x24x1024_S32x15x1024_0_1_0).emb (ix3 s r d) from by
      funext a
      fin_cases a <;> ext <;> simp]
    rw [View.canon_cons_emb]
  · intro hm
    have := (Rect.mem_set_unit (inb := inb_S32x24x1024_S32x8x1024_0_16_0)).1 hm 1
    simp at this
    omega

end Cert.Kernel2Ideal.Blk
-- ==== Proof.Ops2.lean ====
module

public import Idealize.ShloMosaic.Lib.Pipeline.ValueKit
public import Idealize.ShloMosaic.Lib.Claim
public import proofs.«01_k».proof.Proof.Gen.Kernel2Ideal.Value
public import proofs.«01_k».proof.Proof.Read2

@[expose] public section

/-! What a step's operands hold, read from the arguments. -/

set_option maxRecDepth 16384

noncomputable section

open Idealize.ShloMosaic Idealize.ShloMosaic.TcCoe Idealize.SL.Sem
open Idealize.ShloMosaic.Pipeline (Dat)
open Cert.Spec

namespace Cert.Kernel2Ideal.Blk

open Cert.Kernel2Ideal Cert.Kernel2Ideal.Gen

variable (m : (ℓ : Loc nD τ sig) → Buf (Elt Ideal) ℓ)

/-- The weights, read from the arguments. -/
def wK (c : Dev nD) : Wts where
  gMix k := (show FVec Ideal S1x1024 .f32 from m ((c : Thread nD τ).loc main_arg4)) (ix2 0 k)
  wIn k n := (show FVec Ideal S1x1024x6144 .f32 from m ((c : Thread nD τ).loc main_arg5)) (ix3 0 k n)
  wConv j k := (show FVec Ideal S1x3x1024 .f32 from m ((c : Thread nD τ).loc main_arg6)) (ix3 0 j k)
  wOc k n := (show FVec Ideal S1x1024x1024 .f32 from m ((c : Thread nD τ).loc main_arg7)) (ix3 0 k n)
  wPool g a b := (show FVec Ideal S1x4x256x256 .f32 from m ((c : Thread nD τ).loc main_arg8)) (ix4 0 g a b)
  pSc k := (show FVec Ideal S1x1024 .f32 from m ((c : Thread nD τ).loc main_arg9)) (ix2 0 k)
  wO k n := (show FVec Ideal S1x1024x1024 .f32 from m ((c : Thread nD τ).loc main_arg10)) (ix3 0 k n)
  gMlp k := (show FVec Ideal S1x1024 .f32 from m ((c : Thread nD τ).loc main_arg11)) (ix2 0 k)
  wUp k n := (show FVec Ideal S1x1024x4096 .f32 from m ((c : Thread nD τ).loc main_arg12)) (ix3 0 k n)
  wDown k n := (show FVec Ideal S1x4096x1024 .f32 from m ((c : Thread nD τ).loc main_arg13)) (ix3 0 k n)
  gPle k := (show FVec Ideal S1x1024 .f32 from m ((c : Thread nD τ).loc main_arg14)) (ix2 0 k)
  wPg k n := (show FVec Ideal S1x1024x1024 .f32 from m ((c : Thread nD τ).loc main_arg15)) (ix3 0 k n)
  wPp k n := (show FVec Ideal S1x256x1024 .f32 from m ((c : Thread nD τ).loc main_arg16)) (ix3 0 k n)
  gFin k := (show FVec Ideal S1024 .f32 from m ((c : Thread nD τ).loc main_arg17)) (ix1 k)

/-- The weights' windows sit at the origin at every point. -/
theorem idxW : ∀ t : Fin cfg0.N, win0_4.index t = ![0, 0] ∧ win0_5.index t = ![0, 0] ∧ win0_6.index t = ![0, 0] ∧ win0_7.index t = ![0, 0] ∧ win0_8.index t = ![0, 0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

theorem blk_gMix (c : Dev nD) (t : Fin cfg0.N) (k : Fin 1024) :
    (show Vec Ideal S1x1024 .f32 from iblk m c 4 t) (ix2 0 k) = (wK m c).gMix k := by
  unfold wK
  blk_simp [iblk, idxW t]
  entry_read
  pointwise
  blk_ext [idxW t]

theorem blk_wIn (c : Dev nD) (t : Fin cfg0.N) (k : Fin 1024) (n : Fin 6144) :
    (show Vec Ideal S1024x6144 .bf16 from iblk m c 5 t) (ix2 k n) = (wK m c).wIn k n := by
  unfold wK
  blk_simp [iblk, idxW t]
  entry_read
  pointwise
  blk_ext [idxW t]

theorem blk_wConv (c : Dev nD) (t : Fin cfg0.N) (j : Fin 3) (k : Fin 1024) :
    (show Vec Ideal S3x1024 .f32 from iblk m c 6 t) (ix2 j k) = (wK m c).wConv j k := by
  unfold wK
  blk_simp [iblk, idxW t]
  entry_read
  pointwise
  blk_ext [idxW t]

theorem blk_wOc (c : Dev nD) (t : Fin cfg0.N) (k n : Fin 1024) :
    (show Vec Ideal S1024x1024 .bf16 from iblk m c 7 t) (ix2 k n) = (wK m c).wOc k n := by
  unfold wK
  blk_simp [iblk, idxW t]
  entry_read
  pointwise
  blk_ext [idxW t]

theorem blk_wPool (c : Dev nD) (t : Fin cfg0.N) (g : Fin 4) (a b : Fin 256) :
    (show Vec Ideal S4x256x256 .bf16 from iblk m c 8 t) (ix3 g a b) = (wK m c).wPool g a b := by
  unfold wK
  blk_simp [iblk, idxW t]
  entry_read
  pointwise
  blk_ext [idxW t]

theorem blk_pSc (c : Dev nD) (t : Fin cfg0.N) (k : Fin 1024) :
    (show Vec Ideal S1x1024 .f32 from iblk m c 9 t) (ix2 0 k) = (wK m c).pSc k := by
  unfold wK
  blk_simp [iblk, idxW t]
  entry_read
  pointwise
  blk_ext [idxW t]

theorem blk_wO (c : Dev nD) (t : Fin cfg0.N) (k n : Fin 1024) :
    (show Vec Ideal S1024x1024 .bf16 from iblk m c 10 t) (ix2 k n) = (wK m c).wO k n := by
  unfold wK
  blk_simp [iblk, idxW t]
  entry_read
  pointwise
  blk_ext [idxW t]

theorem blk_gMlp (c : Dev nD) (t : Fin cfg0.N) (k : Fin 1024) :
    (show Vec Ideal S1x1024 .f32 from iblk m c 11 t) (ix2 0 k) = (wK m c).gMlp k := by
  unfold wK
  blk_simp [iblk, idxW t]
  entry_read
  pointwise
  blk_ext [idxW t]

theorem blk_wUp (c : Dev nD) (t : Fin cfg0.N) (k : Fin 1024) (n : Fin 4096) :
    (show Vec Ideal S1024x4096 .bf16 from iblk m c 12 t) (ix2 k n) = (wK m c).wUp k n := by
  unfold wK
  blk_simp [iblk, idxW t]
  entry_read
  pointwise
  blk_ext [idxW t]

theorem blk_wDown (c : Dev nD) (t : Fin cfg0.N) (k : Fin 4096) (n : Fin 1024) :
    (show Vec Ideal S4096x1024 .bf16 from iblk m c 13 t) (ix2 k n) = (wK m c).wDown k n := by
  unfold wK
  blk_simp [iblk, idxW t]
  entry_read
  pointwise
  blk_ext [idxW t]

theorem blk_gPle (c : Dev nD) (t : Fin cfg0.N) (k : Fin 1024) :
    (show Vec Ideal S1x1024 .f32 from iblk m c 14 t) (ix2 0 k) = (wK m c).gPle k := by
  unfold wK
  blk_simp [iblk, idxW t]
  entry_read
  pointwise
  blk_ext [idxW t]

theorem blk_wPg (c : Dev nD) (t : Fin cfg0.N) (k n : Fin 1024) :
    (show Vec Ideal S1024x1024 .bf16 from iblk m c 15 t) (ix2 k n) = (wK m c).wPg k n := by
  unfold wK
  blk_simp [iblk, idxW t]
  entry_read
  pointwise
  blk_ext [idxW t]

theorem blk_wPp (c : Dev nD) (t : Fin cfg0.N) (k : Fin 256) (n : Fin 1024) :
    (show Vec Ideal S256x1024 .bf16 from iblk m c 16 t) (ix2 k n) = (wK m c).wPp k n := by
  unfold wK
  blk_simp [iblk, idxW t]
  entry_read
  pointwise
  blk_ext [idxW t]

theorem blk_gFin (c : Dev nD) (t : Fin cfg0.N) (k : Fin 1024) :
    (show Vec Ideal S1x1024 .f32 from iblk m c 17 t) (ix2 0 k) = (wK m c).gFin k := by
  unfold wK
  blk_simp [iblk, idxW t]
  entry_read
  pointwise
  blk_ext [idxW t]

theorem wts_ext (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (W : Wts)
    (h0 : ∀ k, x4 (ix2 0 k) = W.gMix k)
    (h1 : ∀ k n, x5 (ix2 k n) = W.wIn k n)
    (h2 : ∀ j k, x6 (ix2 j k) = W.wConv j k)
    (h3 : ∀ k n, x7 (ix2 k n) = W.wOc k n)
    (h4 : ∀ g a b, x8 (ix3 g a b) = W.wPool g a b)
    (h5 : ∀ k, x9 (ix2 0 k) = W.pSc k)
    (h6 : ∀ k n, x10 (ix2 k n) = W.wO k n)
    (h7 : ∀ k, x11 (ix2 0 k) = W.gMlp k)
    (h8 : ∀ k n, x12 (ix2 k n) = W.wUp k n)
    (h9 : ∀ k n, x13 (ix2 k n) = W.wDown k n)
    (h10 : ∀ k, x14 (ix2 0 k) = W.gPle k)
    (h11 : ∀ k n, x15 (ix2 k n) = W.wPg k n)
    (h12 : ∀ k n, x16 (ix2 k n) = W.wPp k n)
    (h13 : ∀ k, x17 (ix2 0 k) = W.gFin k) :
    wts x4 x5 x6 x7 x8 x9 x10 x11 x12 x13 x14 x15 x16 x17 = W := by
  cases W
  unfold wts
  simp only [h0, h1, h2, h3, h4, h5, h6, h7, h8, h9, h10, h11, h12, h13]

theorem wts_blk (c : Dev nD) (t : Fin cfg0.N) :
    wts (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = wK m c :=
  wts_ext _ _ _ _ _ _ _ _ _ _ _ _ _ _ _ (blk_gMix m c t) (blk_wIn m c t) (blk_wConv m c t) (blk_wOc m c t) (blk_wPool m c t) (blk_pSc m c t) (blk_wO m c t) (blk_gMlp m c t) (blk_wUp m c t) (blk_wDown m c t) (blk_gPle m c t) (blk_wPg m c t) (blk_wPp m c t) (blk_gFin m c t)

end Cert.Kernel2Ideal.Blk
-- ==== Proof.Mix2.lean ====
module

public import proofs.«01_k».proof.Proof.Read2

@[expose] public section

/-! The sample kernel's two mixing branches, row by row. -/

set_option maxRecDepth 16384

noncomputable section

open Idealize.ShloMosaic Idealize.ShloMosaic.TcCoe Idealize.SL.Sem
open Cert.Spec

namespace Cert.Kernel2Ideal.Blk

open Cert.Kernel2Ideal Cert.Kernel2Ideal.Gen

/-- The tile's own row. -/
theorem pay4_row (x0 : Vec Ideal S32x8x1024 .f32) (r : Fin 256) (k : Fin 1024) :
    (k0_pay4 x0 : FVec Ideal S256x1024 .f32) (ix2 r k) = x0 (ix3 ⟨r.val / 8, by omega⟩ ⟨r.val % 8, by omega⟩ k) := by
  unfold k0_pay4
  pointwise

/-- The norm of the tile. -/
theorem pay5_row (x0 : Vec Ideal S32x8x1024 .f32) (x4 : Vec Ideal S1x1024 .f32) (r : Fin 256) (k : Fin 1024) :
    (k0_pay5 x0 x4 : FVec Ideal S256x1024 .bf16) (ix2 r k) = nrm (fun k => x4 (ix2 0 k)) (fun k => x0 (ix3 ⟨r.val / 8, by omega⟩ ⟨r.val % 8, by omega⟩ k)) k := by
  unfold k0_pay5
  pointwise
  simp only [pay4_row]
  rfl

theorem pay6_row (x0 : Vec Ideal S32x8x1024 .f32) (x4 : Vec Ideal S1x1024 .f32) (w : Vec Ideal S1024x1024 .bf16) (r : Fin 256) (d : Fin 1024) :
    (k0_pay6 x0 x4 w : FVec Ideal S256x1024 .f32) (ix2 r d) = ∑ k, nrm (fun k => x4 (ix2 0 k)) (fun k => x0 (ix3 ⟨r.val / 8, by omega⟩ ⟨r.val % 8, by omega⟩ k)) k * w (ix2 k d) := by
  unfold k0_pay6
  pointwise
  simp only [pay5_row]

/-- The row number of a sequence's position, taken apart again. -/
theorem row_div (s : Fin 32) (l : Fin 8) (h : (s.val * 8 + l.val) / 8 < 32) : (⟨(s.val * 8 + l.val) / 8, h⟩ : Fin 32) = s := by
  ext
  simp only
  omega

theorem row_mod (s : Fin 32) (l : Fin 8) (h : (s.val * 8 + l.val) % 8 < 8) : (⟨(s.val * 8 + l.val) % 8, h⟩ : Fin 8) = l := by
  ext
  simp only
  omega

/-- The tile's convolution inputs. -/
theorem uTile_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (x0 : Vec Ideal S32x8x1024 .f32) (s : Fin 32) (l : Fin 8) (d : Fin 1024) :
    uTile x0 x4 x5 (ix3 s l d) = uRow (wts x4 x5 x6 x7 x8 x9 x10 x11 x12 x13 x14 x15 x16 x17) (fun k => x0 (ix3 s l k)) d := by
  have ez : ∀ a : EReal, 0 + a = a := zero_add
  unfold uTile k0_pay8 k0_pay7
  pointwise
  simp only [pay5_row, LW_def, LW_at, row_div, row_mod, ez]
  rfl

/-- The tile's pooling inputs. -/
theorem vTile_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (x0 : Vec Ideal S32x8x1024 .f32) (s : Fin 32) (l : Fin 8) (d : Fin 1024) :
    vTile x0 x4 x5 (ix3 s l d) = vRow (wts x4 x5 x6 x7 x8 x9 x10 x11 x12 x13 x14 x15 x16 x17) (fun k => x0 (ix3 s l k)) d := by
  unfold vTile k0_pay10
  pointwise
  simp only [pay5_row, LW_def, LW_at, row_div, row_mod]
  rfl

/-- The position of a row. -/
theorem pay11_row (s : Fin 32) (l : Fin 8) (x : Fin 256) :
    (k0_pay11 : FVec Ideal S32x8x256 .f32) (ix3 s l x) = posOf l := by
  unfold k0_pay11
  pointwise
  rfl

/-- The convolution branch. -/
theorem YA_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (x0 : Vec Ideal S32x8x1024 .f32) (U : Vec Ideal S32x16x1024 .f32) (r : Fin 256) (d : Fin 1024) :
    YA x0 x4 x5 x6 x7 U (ix2 r d) = yaRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) d := by
  unfold YA k0_pay9
  pointwise
  unfold yaRow
  refine Finset.sum_congr rfl fun e _ => ?_
  simp only [pay6_row, LW_at0, LU_at]
  rfl

/-- Pooling group 0. -/
theorem grp0_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (V : Vec Ideal S32x24x1024 .f32) (r : Fin 256) (e : Fin 256) :
    (k0_pay12 (LV V 16 0 (h := inb_S32x24x1024_S32x8x256_0_16_0)) (LV V 15 0 (h := inb_S32x24x1024_S32x8x256_0_15_0)) (LP x8 0 (h := inb_S4x256x256_S1x256x256_0_0_0)) : FVec Ideal S256x256 .f32) (ix2 r e) = pg (wts x4 x5 x6 x7 x8 x9 x10 x11 x12 x13 x14 x15 x16 x17) (vsOf V ⟨r.val / 8, by omega⟩ ⟨r.val % 8, by omega⟩) (posOf ⟨r.val % 8, by omega⟩) 0 2 1073741824#32 e := by
  unfold k0_pay12
  pointwise
  unfold pg win
  have ez : ∀ a : EReal, 0 + a = a := zero_add
  refine Finset.sum_congr rfl fun x _ => ?_
  simp only [LV_at, LP_at, pay11_row, Finset.sum_range_succ, Finset.sum_range_zero, ez]
  rfl

/-- Pooling group 1. -/
theorem grp1_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (V : Vec Ideal S32x24x1024 .f32) (r : Fin 256) (e : Fin 256) :
    (k0_pay14 k0_pay11 (LV V 16 256 (h := inb_S32x24x1024_S32x8x256_0_16_256)) (k0_pay13 (LV V 16 256 (h := inb_S32x24x1024_S32x8x256_0_16_256)) (LV V 15 256 (h := inb_S32x24x1024_S32x8x256_0_15_256)) (LV V 14 256 (h := inb_S32x24x1024_S32x8x256_0_14_256))) (LV V 13 256 (h := inb_S32x24x1024_S32x8x256_0_13_256)) (LP x8 1 (h := inb_S4x256x256_S1x256x256_1_0_0)) : FVec Ideal S256x256 .f32) (ix2 r e) = pg (wts x4 x5 x6 x7 x8 x9 x10 x11 x12 x13 x14 x15 x16 x17) (vsOf V ⟨r.val / 8, by omega⟩ ⟨r.val % 8, by omega⟩) (posOf ⟨r.val % 8, by omega⟩) 1 4 1082130432#32 e := by
  unfold k0_pay14 k0_pay13
  pointwise
  unfold pg win
  have ez : ∀ a : EReal, 0 + a = a := zero_add
  refine Finset.sum_congr rfl fun x _ => ?_
  simp only [LV_at, LP_at, pay11_row, Finset.sum_range_succ, Finset.sum_range_zero, ez]
  rfl

/-- Pooling group 2. -/
theorem grp2_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (V : Vec Ideal S32x24x1024 .f32) (r : Fin 256) (e : Fin 256) :
    (k0_pay16 k0_pay11 (LV V 16 512 (h := inb_S32x24x1024_S32x8x256_0_16_512)) (k0_pay15 (LV V 16 512 (h := inb_S32x24x1024_S32x8x256_0_16_512)) (LV V 15 512 (h := inb_S32x24x1024_S32x8x256_0_15_512)) (LV V 14 512 (h := inb_S32x24x1024_S32x8x256_0_14_512)) (LV V 13 512 (h := inb_S32x24x1024_S32x8x256_0_13_512)) (LV V 12 512 (h := inb_S32x24x1024_S32x8x256_0_12_512)) (LV V 11 512 (h := inb_S32x24x1024_S32x8x256_0_11_512)) (LV V 10 512 (h := inb_S32x24x1024_S32x8x256_0_10_512)) (LV V 9 512 (h := inb_S32x24x1024_S32x8x256_0_9_512))) (FloatOps.ofBits FTy.f32 1065353216#32) (LP x8 2 (h := inb_S4x256x256_S1x256x256_2_0_0)) : FVec Ideal S256x256 .f32) (ix2 r e) = pg (wts x4 x5 x6 x7 x8 x9 x10 x11 x12 x13 x14 x15 x16 x17) (vsOf V ⟨r.val / 8, by omega⟩ ⟨r.val % 8, by omega⟩) (posOf ⟨r.val % 8, by omega⟩) 2 8 1090519040#32 e := by
  unfold k0_pay16 k0_pay15
  pointwise
  unfold pg win
  have ez : ∀ a : EReal, 0 + a = a := zero_add
  refine Finset.sum_congr rfl fun x _ => ?_
  simp only [LV_at, LP_at, pay11_row, Finset.sum_range_succ, Finset.sum_range_zero, ez]
  rfl

/-- The pooling branch. -/
theorem YB_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (V : Vec Ideal S32x24x1024 .f32) (r : Fin 256) (d : Fin 1024) :
    YB x8 x9 V (ix2 r d) = ybRow (wts x4 x5 x6 x7 x8 x9 x10 x11 x12 x13 x14 x15 x16 x17) (vsOf V ⟨r.val / 8, by omega⟩ ⟨r.val % 8, by omega⟩) (posOf ⟨r.val % 8, by omega⟩) d := by
  have key : ∀ A0 A1 A2 : FVec Ideal S256x256 .f32,
      (∀ e, A0 (ix2 r e) = pg (wts x4 x5 x6 x7 x8 x9 x10 x11 x12 x13 x14 x15 x16 x17) (vsOf V ⟨r.val / 8, by omega⟩ ⟨r.val % 8, by omega⟩) (posOf ⟨r.val % 8, by omega⟩) 0 2 1073741824#32 e) → (∀ e, A1 (ix2 r e) = pg (wts x4 x5 x6 x7 x8 x9 x10 x11 x12 x13 x14 x15 x16 x17) (vsOf V ⟨r.val / 8, by omega⟩ ⟨r.val % 8, by omega⟩) (posOf ⟨r.val % 8, by omega⟩) 1 4 1082130432#32 e) →
      (∀ e, A2 (ix2 r e) = pg (wts x4 x5 x6 x7 x8 x9 x10 x11 x12 x13 x14 x15 x16 x17) (vsOf V ⟨r.val / 8, by omega⟩ ⟨r.val % 8, by omega⟩) (posOf ⟨r.val % 8, by omega⟩) 2 8 1090519040#32 e) →
      (k0_pay18 k0_pay11 A0 A1 A2 (LV V 16 768 (h := inb_S32x24x1024_S32x8x256_0_16_768)) (k0_pay17 (LV V 16 768 (h := inb_S32x24x1024_S32x8x256_0_16_768)) (LV V 15 768 (h := inb_S32x24x1024_S32x8x256_0_15_768)) (LV V 14 768 (h := inb_S32x24x1024_S32x8x256_0_14_768)) (LV V 13 768 (h := inb_S32x24x1024_S32x8x256_0_13_768)) (LV V 12 768 (h := inb_S32x24x1024_S32x8x256_0_12_768)) (LV V 11 768 (h := inb_S32x24x1024_S32x8x256_0_11_768)) (LV V 10 768 (h := inb_S32x24x1024_S32x8x256_0_10_768)) (LV V 9 768 (h := inb_S32x24x1024_S32x8x256_0_9_768)) (LV V 8 768 (h := inb_S32x24x1024_S32x8x256_0_8_768))) (LV V 7 768 (h := inb_S32x24x1024_S32x8x256_0_7_768)) (LV V 6 768 (h := inb_S32x24x1024_S32x8x256_0_6_768)) (LV V 5 768 (h := inb_S32x24x1024_S32x8x256_0_5_768)) (LV V 4 768 (h := inb_S32x24x1024_S32x8x256_0_4_768)) (LV V 3 768 (h := inb_S32x24x1024_S32x8x256_0_3_768)) (LV V 2 768 (h := inb_S32x24x1024_S32x8x256_0_2_768)) (LV V 1 768 (h := inb_S32x24x1024_S32x8x256_0_1_768)) (LP x8 3 (h := inb_S4x256x256_S1x256x256_3_0_0)) x9 : FVec Ideal S256x1024 .f32) (ix2 r d) = ybRow (wts x4 x5 x6 x7 x8 x9 x10 x11 x12 x13 x14 x15 x16 x17) (vsOf V ⟨r.val / 8, by omega⟩ ⟨r.val % 8, by omega⟩) (posOf ⟨r.val % 8, by omega⟩) d := by
    intro A0 A1 A2 g0 g1 g2
    unfold k0_pay18
    pointwise
    unfold ybRow ybPre
    congr 1
    split
    · exact g0 _
    split
    · exact g1 _
    split
    · exact g2 _
    unfold k0_pay17
    pointwise
    unfold pg win
    have ez : ∀ a : EReal, 0 + a = a := zero_add
    refine Finset.sum_congr rfl fun x _ => ?_
    simp only [LV_at, LP_at, pay11_row, Finset.sum_range_succ, Finset.sum_range_zero, ez]
    rfl
  exact key _ _ _ (grp0_row x4 x5 x6 x7 x8 x9 x10 x11 x12 x13 x14 x15 x16 x17 V r) (grp1_row x4 x5 x6 x7 x8 x9 x10 x11 x12 x13 x14 x15 x16 x17 V r) (grp2_row x4 x5 x6 x7 x8 x9 x10 x11 x12 x13 x14 x15 x16 x17 V r)

end Cert.Kernel2Ideal.Blk
-- ==== Proof.Out2.lean ====
module

public import proofs.«01_k».proof.Proof.Mix2

@[expose] public section

/-! The sample kernel's output tile, row by row. -/

set_option maxRecDepth 16384

noncomputable section

open Idealize.ShloMosaic Idealize.ShloMosaic.TcCoe Idealize.SL.Sem
open Cert.Spec

namespace Cert.Kernel2Ideal.Blk

open Cert.Kernel2Ideal Cert.Kernel2Ideal.Gen

/-- The residual row after the mixing branches. -/
theorem pay19_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (r : Fin 256) (d : Fin 1024) :
    (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 : FVec Ideal S256x1024 .f32) (ix2 r d) = (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d := by
  unfold k0_pay19
  pointwise
  simp only [pay4_row, pay5_row, YA_row x4 x5 x6 x7 x8 x9 x10 x11 x12 x13 x14 x15 x16 x17, YB_row x4 x5 x6 x7 x8 x9 x10 x11 x12 x13 x14 x15 x16 x17, LW_at]
  rfl

/-- Its norm. -/
theorem pay20_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (r : Fin 256) (d : Fin 1024) :
    ((k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) : FVec Ideal S256x1024 .bf16) (ix2 r d) = nrm (wts x4 x5 x6 x7 x8 x9 x10 x11 x12 x13 x14 x15 x16 x17).gMlp (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d := by
  unfold k0_pay20
  pointwise
  simp only [pay19_row x4 x5 x6 x7 x8 x9 x10 x11 x12 x13 x14 x15 x16 x17]
  rfl

/-- The MLP's first three chunks added. -/
theorem pay21_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (r : Fin 256) (d : Fin 1024) :
    ((k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) : FVec Ideal S256x1024 .f32) (ix2 r d)
      = (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d + ∑ x : Fin 1024, mlpTerm (wts x4 x5 x6 x7 x8 x9 x10 x11 x12 x13 x14 x15 x16 x17) (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d ⟨x.val, by omega⟩
        + ∑ x : Fin 1024, mlpTerm (wts x4 x5 x6 x7 x8 x9 x10 x11 x12 x13 x14 x15 x16 x17) (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d ⟨1024 + x.val, by omega⟩
        + ∑ x : Fin 1024, mlpTerm (wts x4 x5 x6 x7 x8 x9 x10 x11 x12 x13 x14 x15 x16 x17) (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d ⟨2048 + x.val, by omega⟩ := by
  unfold k0_pay21
  pointwise
  simp only [pay19_row x4 x5 x6 x7 x8 x9 x10 x11 x12 x13 x14 x15 x16 x17, pay20_row x4 x5 x6 x7 x8 x9 x10 x11 x12 x13 x14 x15 x16 x17, LUp_at0, LDn_at0]
  simp only [LUp_at, LDn_at]
  rfl

/-- The last chunk's hidden units. -/
theorem pay22_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (r : Fin 256) (f : Fin 1024) :
    ((k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) : FVec Ideal S256x1024 .f32) (ix2 r f)
      = ∑ k, nrm (wts x4 x5 x6 x7 x8 x9 x10 x11 x12 x13 x14 x15 x16 x17).gMlp (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) k * (wts x4 x5 x6 x7 x8 x9 x10 x11 x12 x13 x14 x15 x16 x17).wUp k ⟨3072 + f.val, by omega⟩ := by
  unfold k0_pay22
  pointwise
  simp only [pay20_row x4 x5 x6 x7 x8 x9 x10 x11 x12 x13 x14 x15 x16 x17, LUp_at]
  rfl

/-- The residual row after the MLP, as the last payload adds it. -/
theorem mlp_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (r : Fin 256) (d : Fin 1024) :
    ((k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) : FVec Ideal S256x1024 .f32) (ix2 r d)
      + ∑ x : Fin 1024, max (((k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) : FVec Ideal S256x1024 .f32) (ix2 r x)) 0 * max (((k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) : FVec Ideal S256x1024 .f32) (ix2 r x)) 0
        * ((LDn x13 3072 (h := inb_S4096x1024_S1024x1024_3072_0)) : Vec Ideal S1024x1024 .bf16) (ix2 x d)
      = mlpRow (wts x4 x5 x6 x7 x8 x9 x10 x11 x12 x13 x14 x15 x16 x17) (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩)) d := by
  rw [mlpRow_chunks]
  simp only [pay21_row x4 x5 x6 x7 x8 x9 x10 x11 x12 x13 x14 x15 x16 x17, pay22_row x4 x5 x6 x7 x8 x9 x10 x11 x12 x13 x14 x15 x16 x17, LDn_at]
  rfl

/-- The residual row after the embedding. -/
theorem pay23_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (x1 : Vec Ideal S32x8x256 .f32) (r : Fin 256) (d : Fin 1024) :
    (k0_pay23 (k0_pay21 (k0_pay19 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10) (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 0 (h := inb_S1024x4096_S1024x1024_0_0)) (LDn x13 0 (h := inb_S4096x1024_S1024x1024_0_0)) (LUp x12 1024 (h := inb_S1024x4096_S1024x1024_0_1024)) (LDn x13 1024 (h := inb_S4096x1024_S1024x1024_1024_0)) (LUp x12 2048 (h := inb_S1024x4096_S1024x1024_0_2048)) (LDn x13 2048 (h := inb_S4096x1024_S1024x1024_2048_0))) (k0_pay22 (k0_pay20 (k0_pay4 x0) (k0_pay5 x0 x4) (YA x0 x4 x5 x6 x7 U) (YB x8 x9 V) (LW x5 4096 (h := inb_S1024x6144_S1024x1024_0_4096)) (LW x5 5120 (h := inb_S1024x6144_S1024x1024_0_5120)) x10 x11) (LUp x12 3072 (h := inb_S1024x4096_S1024x1024_0_3072))) (LDn x13 3072 (h := inb_S4096x1024_S1024x1024_3072_0)) x14 x15 x1 x16 : FVec Ideal S256x1024 .f32) (ix2 r d) = pleRow (wts x4 x5 x6 x7 x8 x9 x10 x11 x12 x13 x14 x15 x16 x17) (mlpRow (wts x4 x5 x6 x7 x8 x9 x10 x11 x12 x13 x14 x15 x16 x17) (hRow (wts x4 x5 x6 x7 x8 x9 x10 x11 x12 x13 x14 x15 x16 x17) (fun k => x0 (ix3 ⟨r.val / 8, by omega⟩ ⟨r.val % 8, by omega⟩ k)) (usOf U ⟨r.val / 8, by omega⟩ ⟨r.val % 8, by omega⟩) (vsOf V ⟨r.val / 8, by omega⟩ ⟨r.val % 8, by omega⟩) (posOf ⟨r.val % 8, by omega⟩))) (fun q => x1 (ix3 ⟨r.val / 8, by omega⟩ ⟨r.val % 8, by omega⟩ q)) d := by
  unfold k0_pay23
  pointwise
  have hm := mlp_row x4 x5 x6 x7 x8 x9 x10 x11 x12 x13 x14 x15 x16 x17 U V x0 r
  simp only [hm]
  rfl

/-- The output tile. -/
theorem YO_row (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (U : Vec Ideal S32x16x1024 .f32) (V : Vec Ideal S32x24x1024 .f32) (x0 : Vec Ideal S32x8x1024 .f32) (x1 : Vec Ideal S32x8x256 .f32) (s : Fin 32) (l : Fin 8) (d : Fin 1024) :
    YO x0 x1 x4 x5 x6 x7 x8 x9 x10 x11 x12 x13 x14 x15 x16 x17 U V (ix3 s l d) = yRow (wts x4 x5 x6 x7 x8 x9 x10 x11 x12 x13 x14 x15 x16 x17) (fun k => x0 (ix3 s l k)) (usOf U s l) (vsOf V s l) (posOf l) (fun q => x1 (ix3 s l q)) d := by
  unfold YO k0_pay1 k0_pay25 k0_pay24
  pointwise
  simp only [pay23_row x4 x5 x6 x7 x8 x9 x10 x11 x12 x13 x14 x15 x16 x17, row_div, row_mod]
  rfl

end Cert.Kernel2Ideal.Blk
-- ==== Proof.Arr2.lean ====
module

public import proofs.«01_k».proof.Proof.Ops2
public import proofs.«01_k».proof.Proof.Out2
public import proofs.«01_k».proof.Proof.PoolKey

@[expose] public section

/-! The sample kernel's results after the run, as the layer's mathematics of the arguments. -/

set_option maxRecDepth 16384

noncomputable section

open Idealize.ShloMosaic Idealize.ShloMosaic.TcCoe Idealize.SL.Sem
open Idealize.ShloMosaic.Pipeline (Dat)
open Cert.Spec

namespace Cert.Kernel2Ideal.Blk

open Cert.Kernel2Ideal Cert.Kernel2Ideal.Gen

variable (m : (ℓ : Loc nD τ sig) → Buf (Elt Ideal) ℓ)

/-- A position's input row. -/
def xK (c : Dev nD) (b : Fin 128) (l : Fin 8) (k : Fin 1024) : EReal :=
  (show FVec Ideal S128x8x1024 .f32 from m ((c : Thread nD τ).loc main_arg0)) (ix3 b l k)

/-- A position's per-layer embedding row. -/
def pK (c : Dev nD) (b : Fin 128) (l : Fin 8) (q : Fin 256) : EReal :=
  (show FVec Ideal S1x128x8x256 .f32 from m ((c : Thread nD τ).loc main_arg1)) (ix4 0 b l q)

/-- The convolution's history of a sequence: its two stored rows, then its own. -/
def uExt (c : Dev nD) (b : Fin 128) (r : ℕ) (d : Fin 1024) : EReal :=
  if h : r < 2 then (show FVec Ideal S1x128x2x1024 .f32 from m ((c : Thread nD τ).loc main_arg2)) (ix4 0 b ⟨r, h⟩ d)
  else if h : r - 2 < 8 then uRow (wK m c) (xK m c b ⟨r - 2, h⟩) d else 0

/-- The pooling branch's history of a sequence: its fifteen stored rows, then its own. -/
def vExt (c : Dev nD) (b : Fin 128) (r : ℕ) (d : Fin 1024) : EReal :=
  if h : r < 15 then (show FVec Ideal S1x128x15x1024 .f32 from m ((c : Thread nD τ).loc main_arg3)) (ix4 0 b ⟨r, h⟩ d)
  else if h : r - 15 < 8 then vRow (wK m c) (xK m c b ⟨r - 15, h⟩) d else 0

theorem idxB : ∀ t : Fin cfg0.N, win0_0.index t = ![t.val, 0, 0] ∧ win0_1.index t = ![t.val, 0, 0]
    ∧ win0_2.index t = ![t.val, 0, 0] ∧ win0_3.index t = ![t.val, 0, 0] ∧ win0_18.index t = ![t.val, 0, 0]
    ∧ win0_19.index t = ![t.val, 0, 0] ∧ win0_20.index t = ![t.val, 0, 0] :=
  (by decide +kernel : ∀ t : Fin grid0.N, _)

theorem tlt (t : Fin cfg0.N) : t.val < 4 := t.isLt

/-- The sequence that row `s` of block `t` belongs to. -/
def sq (t : Fin cfg0.N) (s : Fin 32) : Fin 128 := ⟨32 * t.val + s.val, by have := tlt t; omega⟩

theorem x_blk (c : Dev nD) (t : Fin cfg0.N) (s : Fin 32) (l : Fin 8) (k : Fin 1024) :
    (show Vec Ideal S32x8x1024 .f32 from iblk m c 0 t) (ix3 s l k) = xK m c (sq t s) l k := by
  unfold xK sq
  blk_simp [iblk, idxB t]
  entry_read
  pointwise
  blk_ext [idxB t]

theorem p_blk (c : Dev nD) (t : Fin cfg0.N) (s : Fin 32) (l : Fin 8) (k : Fin 256) :
    (show Vec Ideal S32x8x256 .f32 from iblk m c 1 t) (ix3 s l k) = pK m c (sq t s) l k := by
  unfold pK sq
  blk_simp [iblk, idxB t]
  entry_read
  pointwise
  blk_ext [idxB t]

theorem sc_blk (c : Dev nD) (t : Fin cfg0.N) (s : Fin 32) (l : Fin 2) (k : Fin 1024) :
    (show Vec Ideal S32x2x1024 .f32 from iblk m c 2 t) (ix3 s l k) = uExt m c (sq t s) l.val k := by
  unfold uExt sq
  rw [dif_pos l.isLt]
  blk_simp [iblk, idxB t]
  entry_read
  pointwise
  blk_ext [idxB t]

theorem sp_blk (c : Dev nD) (t : Fin cfg0.N) (s : Fin 32) (l : Fin 15) (k : Fin 1024) :
    (show Vec Ideal S32x15x1024 .f32 from iblk m c 3 t) (ix3 s l k) = vExt m c (sq t s) l.val k := by
  unfold vExt sq
  rw [dif_pos l.isLt]
  blk_simp [iblk, idxB t]
  entry_read
  pointwise
  blk_ext [idxB t]

theorem uT (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (x0 : Vec Ideal S32x8x1024 .f32) (W : Wts) (X : Fin 1024 → EReal)
    (hW : wts x4 x5 x6 x7 x8 x9 x10 x11 x12 x13 x14 x15 x16 x17 = W) (s : Fin 32) (l : Fin 8) (d : Fin 1024) (hX : ∀ k, x0 (ix3 s l k) = X k) :
    uTile x0 x4 x5 (ix3 s l d) = uRow W X d := by
  rw [uTile_row x4 x5 x6 x7 x8 x9 x10 x11 x12 x13 x14 x15 x16 x17, hW]
  simp only [hX]

theorem vT (x4 : Vec Ideal S1x1024 .f32) (x5 : Vec Ideal S1024x6144 .bf16) (x6 : Vec Ideal S3x1024 .f32) (x7 : Vec Ideal S1024x1024 .bf16) (x8 : Vec Ideal S4x256x256 .bf16) (x9 : Vec Ideal S1x1024 .f32) (x10 : Vec Ideal S1024x1024 .bf16) (x11 : Vec Ideal S1x1024 .f32) (x12 : Vec Ideal S1024x4096 .bf16) (x13 : Vec Ideal S4096x1024 .bf16) (x14 : Vec Ideal S1x1024 .f32) (x15 : Vec Ideal S1024x1024 .bf16) (x16 : Vec Ideal S256x1024 .bf16) (x17 : Vec Ideal S1x1024 .f32) (x0 : Vec Ideal S32x8x1024 .f32) (W : Wts) (X : Fin 1024 → EReal)
    (hW : wts x4 x5 x6 x7 x8 x9 x10 x11 x12 x13 x14 x15 x16 x17 = W) (s : Fin 32) (l : Fin 8) (d : Fin 1024) (hX : ∀ k, x0 (ix3 s l k) = X k) :
    vTile x0 x4 x5 (ix3 s l d) = vRow W X d := by
  rw [vTile_row x4 x5 x6 x7 x8 x9 x10 x11 x12 x13 x14 x15 x16 x17, hW]
  simp only [hX]

/-- The convolution's scratch at a step. -/
def UB (c : Dev nD) (t : Fin cfg0.N) : Vec Ideal S32x16x1024 .f32 :=
  EU (k0_pay2 (iblk m c 2 t)) (uTile (iblk m c 0 t) (iblk m c 4 t) (iblk m c 5 t))

/-- The pooling branch's scratch at a step. -/
def VB (c : Dev nD) (t : Fin cfg0.N) : Vec Ideal S32x24x1024 .f32 :=
  EV (k0_pay3 (iblk m c 3 t)) (vTile (iblk m c 0 t) (iblk m c 4 t) (iblk m c 5 t))

theorem pay2_at (x : Vec Ideal S32x2x1024 .f32) (s : Fin 32) (l : Fin 2) (k : Fin 1024) :
    k0_pay2 x (ix3 s l k) = x (ix3 s l k) := by
  unfold k0_pay2
  pointwise

theorem pay3_at (x : Vec Ideal S32x15x1024 .f32) (s : Fin 32) (l : Fin 15) (k : Fin 1024) :
    k0_pay3 x (ix3 s l k) = x (ix3 s l k) := by
  unfold k0_pay3
  pointwise

theorem UB_at (c : Dev nD) (t : Fin cfg0.N) (s : Fin 32) (r : ℕ) (hr : r < 10) (d : Fin 1024) :
    UB m c t (ix3 s ⟨6 + r, by omega⟩ d) = uExt m c (sq t s) r d := by
  unfold UB
  by_cases h : r < 2
  · exact (EU_lo _ _ s ⟨r, h⟩ d).trans ((pay2_at _ s ⟨r, h⟩ d).trans (sc_blk m c t s ⟨r, h⟩ d))
  · have h8 : r - 2 < 8 := by omega
    have hi := EU_hi (k0_pay2 (iblk m c 2 t)) (uTile (iblk m c 0 t) (iblk m c 4 t) (iblk m c 5 t)) s ⟨r - 2, h8⟩ d
    rw [show (⟨6 + r, by omega⟩ : Fin 16) = ⟨8 + (r - 2), by omega⟩ from Fin.ext (by show 6 + r = 8 + (r - 2); omega)]
    refine hi.trans ?_
    unfold uExt
    rw [dif_neg h, dif_pos h8]
    exact uT _ _ _ _ _ _ _ _ _ _ _ _ _ _ _ _ _ (wts_blk m c t) s _ d (fun k => x_blk m c t s _ k)

theorem VB_at (c : Dev nD) (t : Fin cfg0.N) (s : Fin 32) (r : ℕ) (hr : r < 23) (d : Fin 1024) :
    VB m c t (ix3 s ⟨1 + r, by omega⟩ d) = vExt m c (sq t s) r d := by
  unfold VB
  by_cases h : r < 15
  · exact (EV_lo _ _ s ⟨r, h⟩ d).trans ((pay3_at _ s ⟨r, h⟩ d).trans (sp_blk m c t s ⟨r, h⟩ d))
  · have h8 : r - 15 < 8 := by omega
    have hi := EV_hi (k0_pay3 (iblk m c 3 t)) (vTile (iblk m c 0 t) (iblk m c 4 t) (iblk m c 5 t)) s ⟨r - 15, h8⟩ d
    rw [show (⟨1 + r, by omega⟩ : Fin 24) = ⟨16 + (r - 15), by omega⟩ from Fin.ext (by show 1 + r = 16 + (r - 15); omega)]
    refine hi.trans ?_
    unfold vExt
    rw [dif_neg h, dif_pos h8]
    exact vT _ _ _ _ _ _ _ _ _ _ _ _ _ _ _ _ _ (wts_blk m c t) s _ d (fun k => x_blk m c t s _ k)

/-- The layer's output at a position. -/
def yK (c : Dev nD) (b : Fin 128) (l : Fin 8) (d : Fin 1024) : EReal :=
  yRow (wK m c) (xK m c b l) (fun j => uExt m c b (2 + l.val - j)) (fun j => vExt m c b (15 + l.val - j)) (posOf l)
    (pK m c b l) d

theorem YO_blk (c : Dev nD) (t : Fin cfg0.N) (s : Fin 32) (l : Fin 8) (d : Fin 1024) :
    YO (iblk m c 0 t) (iblk m c 1 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (UB m c t) (VB m c t) (ix3 s l d) = yK m c (sq t s) l d := by
  rw [YO_row (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), wts_blk]
  unfold yK
  rw [show (fun k => (show Vec Ideal S32x8x1024 .f32 from iblk m c 0 t) (ix3 s l k)) = xK m c (sq t s) l from
      funext fun k => x_blk m c t s l k,
    show (fun k => (show Vec Ideal S32x8x256 .f32 from iblk m c 1 t) (ix3 s l k)) = pK m c (sq t s) l from
      funext fun k => p_blk m c t s l k]
  refine congrFun (yRow_congr _ _ _ ?_ ?_ rfl) d
  · intro j hj
    funext e
    unfold usOf
    rw [← UB_at m c t s (2 + l.val - j) (by omega)]
    congr 2
    apply Fin.ext
    show 8 + l.val - j = 6 + (2 + l.val - j)
    omega
  · intro j hj
    funext e
    unfold vsOf
    rw [← VB_at m c t s (15 + l.val - j) (by omega)]
    congr 2
    apply Fin.ext
    show 16 + l.val - j = 1 + (15 + l.val - j)
    omega

theorem ldU (U : Vec Ideal S32x16x1024 .f32) (s : Fin 32) (l : Fin 2) (d : Fin 1024) :
    View.ld U (Rect.unit ![0, 14, 0] ![32, 2, 1024] inb_S32x16x1024_S32x2x1024_0_14_0) (ix3 s l d)
      = U (ix3 s ⟨6 + (8 + l.val), by omega⟩ d) := by
  rw [View.ld_apply]
  congr 1
  funext a
  fin_cases a <;> ext <;> simp <;> omega

theorem ldV (V : Vec Ideal S32x24x1024 .f32) (s : Fin 32) (l : Fin 15) (d : Fin 1024) :
    View.ld V (Rect.unit ![0, 9, 0] ![32, 15, 1024] inb_S32x24x1024_S32x15x1024_0_9_0) (ix3 s l d)
      = V (ix3 s ⟨1 + (8 + l.val), by omega⟩ d) := by
  rw [View.ld_apply]
  congr 1
  funext a
  fin_cases a <;> ext <;> simp <;> omega

theorem final18 (c : Dev nD) : (dats m 0 c).arrAt 18 cfg0.N
    = (show FVec Ideal S128x8x1024 .f32 from fun i => yK m c (i 0) (i 1) (i 2)) := by
  refine (dats m 0 c).arrAt_eq_of_covers 18 _ (by decide +kernel) fun t hf y => ?_
  blk_simp
  rw [after0_18]
  unfold outsAt0
  dsimp only
  rw [out0_A_18_eq]
  obtain ⟨s, l, d, rfl⟩ : ∃ (s : Fin 32) (l : Fin 8) (d : Fin 1024), y = ix3 s l d := ⟨y 0, y 1, y 2, by funext a; fin_cases a <;> rfl⟩
  refine (YO_blk m c t s l d).trans ?_
  unfold sq
  congr 1 <;> apply Fin.ext
  all_goals (blk_simp [idxB t] <;> (dsimp only; omega))

theorem final19 (c : Dev nD) : (dats m 0 c).arrAt 19 cfg0.N
    = (show FVec Ideal S128x2x1024 .f32 from fun i => uExt m c (i 0) (8 + (i 1).val) (i 2)) := by
  refine (dats m 0 c).arrAt_eq_of_covers 19 _ (by decide +kernel) fun t hf y => ?_
  blk_simp
  rw [after0_19]
  unfold outsAt0
  dsimp only
  rw [out0_A_19_eq]
  obtain ⟨s, l, d, rfl⟩ : ∃ (s : Fin 32) (l : Fin 2) (d : Fin 1024), y = ix3 s l d := ⟨y 0, y 1, y 2, by funext a; fin_cases a <;> rfl⟩
  refine (ldU _ s l d).trans ((UB_at m c t s (8 + l.val) (by omega) d).trans ?_)
  unfold sq
  congr 1
  · apply Fin.ext
    blk_simp [idxB t] <;> (dsimp only; omega)
  · blk_simp [idxB t]
  · apply Fin.ext
    blk_simp [idxB t]

theorem final20 (c : Dev nD) : (dats m 0 c).arrAt 20 cfg0.N
    = (show FVec Ideal S128x15x1024 .f32 from fun i => vExt m c (i 0) (8 + (i 1).val) (i 2)) := by
  refine (dats m 0 c).arrAt_eq_of_covers 20 _ (by decide +kernel) fun t hf y => ?_
  blk_simp
  rw [after0_20]
  unfold outsAt0
  dsimp only
  rw [out0_A_20_eq]
  obtain ⟨s, l, d, rfl⟩ : ∃ (s : Fin 32) (l : Fin 15) (d : Fin 1024), y = ix3 s l d := ⟨y 0, y 1, y 2, by funext a; fin_cases a <;> rfl⟩
  refine (ldV _ s l d).trans ((VB_at m c t s (8 + l.val) (by omega) d).trans ?_)
  unfold sq
  congr 1
  · apply Fin.ext
    blk_simp [idxB t] <;> (dsimp only; omega)
  · blk_simp [idxB t]
  · apply Fin.ext
    blk_simp [idxB t]

end Cert.Kernel2Ideal.Blk
-- ==== Proof.End2.lean ====
module

public import proofs.«01_k».proof.Defs
public import proofs.«01_k».proof.Proof.RefEnd2
public import proofs.«01_k».proof.Proof.Arr2

@[expose] public section

/-! The sample program's value claim: both runs end with the layer's mathematics of the same arguments. -/

set_option maxRecDepth 16384

noncomputable section

open Idealize.ShloMosaic Idealize.ShloMosaic.TcCoe Idealize.SL.Sem Idealize.ShloMosaic.StableHlo
open Cert.Spec

namespace Cert.End2

open Cert.Kernel2Ideal.Blk (wK xK pK)
open Cert.Reference2Ideal.Rf (wtsR xR pR)

theorem at_eq {S : Shape} (a b : FVec Ideal S .f32) (h : a = b) (i : S.Idx) : a i = b i := congrFun h i

/-- The two programs' arguments agree on a device. -/
def Agree (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

theorem wts_eq (hA : Agree m m' c) : wtsR (launchContents m' c) = wK m c := by
  unfold wtsR wK
  rw [Wts.mk.injEq]
  unfold Agree at hA
  exact ⟨(funext fun k => at_eq (S := Cert.Reference2Ideal.S1x1024) _ _ hA.2.2.2.2.1 (ix2 0 k)),
    (funext fun k => (funext fun n => at_eq (S := Cert.Reference2Ideal.S1x1024x6144) _ _ hA.2.2.2.2.2.1 (ix3 0 k n))),
    (funext fun k => (funext fun n => at_eq (S := Cert.Reference2Ideal.S1x3x1024) _ _ hA.2.2.2.2.2.2.1 (ix3 0 k n))),
    (funext fun k => (funext fun n => at_eq (S := Cert.Reference2Ideal.S1x1024x1024) _ _ hA.2.2.2.2.2.2.2.1 (ix3 0 k n))),
    (funext fun k => (funext fun n => (funext fun e => at_eq (S := Cert.Reference2Ideal.S1x4x256x256) _ _ hA.2.2.2.2.2.2.2.2.1 (ix4 0 k n e)))),
    (funext fun k => at_eq (S := Cert.Reference2Ideal.S1x1024) _ _ hA.2.2.2.2.2.2.2.2.2.1 (ix2 0 k)),
    (funext fun k => (funext fun n => at_eq (S := Cert.Reference2Ideal.S1x1024x1024) _ _ hA.2.2.2.2.2.2.2.2.2.2.1 (ix3 0 k n))),
    (funext fun k => at_eq (S := Cert.Reference2Ideal.S1x1024) _ _ hA.2.2.2.2.2.2.2.2.2.2.2.1 (ix2 0 k)),
    (funext fun k => (funext fun n => at_eq (S := Cert.Reference2Ideal.S1x1024x4096) _ _ hA.2.2.2.2.2.2.2.2.2.2.2.2.1 (ix3 0 k n))),
    (funext fun k => (funext fun n => at_eq (S := Cert.Reference2Ideal.S1x4096x1024) _ _ hA.2.2.2.2.2.2.2.2.2.2.2.2.2.1 (ix3 0 k n))),
    (funext fun k => at_eq (S := Cert.Reference2Ideal.S1x1024) _ _ hA.2.2.2.2.2.2.2.2.2.2.2.2.2.2.1 (ix2 0 k)),
    (funext fun k => (funext fun n => at_eq (S := Cert.Reference2Ideal.S1x1024x1024) _ _ hA.2.2.2.2.2.2.2.2.2.2.2.2.2.2.2.1 (ix3 0 k n))),
    (funext fun k => (funext fun n => at_eq (S := Cert.Reference2Ideal.S1x256x1024) _ _ hA.2.2.2.2.2.2.2.2.2.2.2.2.2.2.2.2.1 (ix3 0 k n))),
    (funext fun k => at_eq (S := Cert.Reference2Ideal.S1024) _ _ hA.2.2.2.2.2.2.2.2.2.2.2.2.2.2.2.2.2 (ix1 k))⟩

theorem x_eq (hA : Agree m m' c) (b : Fin 128) (t : Fin 8) : xR (launchContents m' c) b t = xK m c b t := by
  unfold Agree at hA
  exact funext fun k => at_eq (S := Cert.Reference2Ideal.S128x8x1024) _ _ hA.1 (ix3 b t k)

theorem p_eq (hA : Agree m m' c) (b : Fin 128) (t : Fin 8) : pR (launchContents m' c) b t = pK m c b t := by
  unfold Agree at hA
  exact funext fun k => at_eq (S := Cert.Reference2Ideal.S1x128x8x256) _ _ hA.2.1 (ix4 0 b t k)

theorem u_eq (hA : Agree m m' c) (b : Fin 128) (r : ℕ) (d : Fin 1024) :
    Cert.Reference2Ideal.Rf.uHist (launchContents m' c) b r d = Cert.Kernel2Ideal.Blk.uExt m c b r d := by
  unfold Cert.Reference2Ideal.Rf.uHist Cert.Kernel2Ideal.Blk.uExt
  rw [wts_eq m m' c hA]
  unfold Agree at hA
  by_cases h : r < 2
  · rw [dif_pos h, dif_pos h]
    exact at_eq (S := Cert.Reference2Ideal.S1x128x2x1024) _ _ hA.2.2.1 (ix4 0 b ⟨r, h⟩ d)
  · rw [dif_neg h, dif_neg h]
    by_cases h' : r - 2 < 8
    · rw [dif_pos h', dif_pos h', x_eq m m' c hA]
    · rw [dif_neg h', dif_neg h']

theorem v_eq (hA : Agree m m' c) (b : Fin 128) (r : ℕ) (d : Fin 1024) :
    Cert.Reference2Ideal.Rf.vHist (launchContents m' c) b r d = Cert.Kernel2Ideal.Blk.vExt m c b r d := by
  unfold Cert.Reference2Ideal.Rf.vHist Cert.Kernel2Ideal.Blk.vExt
  rw [wts_eq m m' c hA]
  unfold Agree at hA
  by_cases h : r < 15
  · rw [dif_pos h, dif_pos h]
    exact at_eq (S := Cert.Reference2Ideal.S1x128x15x1024) _ _ hA.2.2.2.1 (ix4 0 b ⟨r, h⟩ d)
  · rw [dif_neg h, dif_neg h]
    by_cases h' : r - 15 < 8
    · rw [dif_pos h', dif_pos h', x_eq m m' c hA]
    · rw [dif_neg h', dif_neg h']

/-- The first results are equal. -/
theorem y_eq (hA : Agree m m' c) : (show FVec Ideal Cert.Kernel2Ideal.S128x8x1024 .f32 from Cert.Reference2Ideal.Value.val4 (launchContents m' c) (Proc.devRef .tc Cert.Reference2Ideal.main_v188))
    = (show FVec Ideal Cert.Kernel2Ideal.S128x8x1024 .f32 from (Cert.Kernel2Ideal.Gen.dats m 0 c).arrAt 18 Cert.Kernel2Ideal.cfg0.N) := by
  rw [Cert.Kernel2Ideal.Blk.final18 m c]
  funext i
  obtain ⟨b, t, d, rfl⟩ : ∃ (b : Fin 128) (t : Fin 8) (d : Fin 1024), i = ix3 b t d := ⟨i 0, i 1, i 2, by funext a; fin_cases a <;> rfl⟩
  refine (Cert.Reference2Ideal.Rf.y_all (launchContents m' c) b t d).trans ?_
  rw [wts_eq m m' c hA, x_eq m m' c hA, p_eq m m' c hA]
  show _ = Cert.Kernel2Ideal.Blk.yK m c b t d
  unfold Cert.Kernel2Ideal.Blk.yK
  refine congrFun (yRow_congr _ _ _ ?_ ?_ rfl) d
  · intro j hj
    funext e
    exact (u_eq m m' c hA b _ e)
  · intro j hj
    funext e
    exact (v_eq m m' c hA b _ e)

/-- The second results are equal. -/
theorem conv_eq (hA : Agree m m' c) : (show FVec Ideal Cert.Kernel2Ideal.S128x2x1024 .f32 from Cert.Reference2Ideal.Value.val4 (launchContents m' c) (Proc.devRef .tc Cert.Reference2Ideal.main_v191))
    = (show FVec Ideal Cert.Kernel2Ideal.S128x2x1024 .f32 from (Cert.Kernel2Ideal.Gen.dats m 0 c).arrAt 19 Cert.Kernel2Ideal.cfg0.N) := by
  rw [Cert.Kernel2Ideal.Blk.final19 m c]
  funext i
  obtain ⟨b, l, d, rfl⟩ : ∃ (b : Fin 128) (l : Fin 2) (d : Fin 1024), i = ix3 b l d := ⟨i 0, i 1, i 2, by funext a; fin_cases a <;> rfl⟩
  exact (Cert.Reference2Ideal.Rf.conv_all (launchContents m' c) b l d).trans ((u_eq m m' c hA b _ d))

/-- The third results are equal. -/
theorem pool_eq (hA : Agree m m' c) : (show FVec Ideal Cert.Kernel2Ideal.S128x15x1024 .f32 from Cert.Reference2Ideal.Value.val4 (launchContents m' c) (Proc.devRef .tc Cert.Reference2Ideal.main_v192))
    = (show FVec Ideal Cert.Kernel2Ideal.S128x15x1024 .f32 from (Cert.Kernel2Ideal.Gen.dats m 0 c).arrAt 20 Cert.Kernel2Ideal.cfg0.N) := by
  rw [Cert.Kernel2Ideal.Blk.final20 m c]
  funext i
  obtain ⟨b, l, d, rfl⟩ : ∃ (b : Fin 128) (l : Fin 15) (d : Fin 1024), i = ix3 b l d := ⟨i 0, i 1, i 2, by funext a; fin_cases a <;> rfl⟩
  exact (Cert.Reference2Ideal.Rf.pool_all (launchContents m' c) b l d).trans ((v_eq m m' c hA b _ d))

/-- The claim. -/
theorem algebraic : algebraic_Kernel2Ideal_Reference2Ideal (hKernel2Ideal := Cert.Kernel2Ideal.Gen.facts) (hReference2Ideal := Cert.Reference2Ideal.Gen.facts) := by
  intro m g m' g' _ hA
  refine ⟨fun c => (Cert.Kernel2Ideal.Gen.dats m 0 c).arrAt 18 Cert.Kernel2Ideal.cfg0.N, fun c => (Cert.Kernel2Ideal.Gen.dats m 0 c).arrAt 19 Cert.Kernel2Ideal.cfg0.N,
    fun c => (Cert.Kernel2Ideal.Gen.dats m 0 c).arrAt 20 Cert.Kernel2Ideal.cfg0.N, Cert.Kernel2Ideal.Value.run_blocks m g,
    (θ_run _ _ _).mono (fun r h c => ?_) (Cert.Reference2Ideal.Value.run m' g')⟩
  have hc := h c
  exact ⟨hc.1.trans ((Cert.Reference2Ideal.Value.val4_main_v188 (launchContents m' c)).symm.trans (y_eq m m' c (hA c))),
    hc.2.1.trans ((Cert.Reference2Ideal.Value.val4_main_v191 (launchContents m' c)).symm.trans (conv_eq m m' c (hA c))),
    hc.2.2.1.trans ((Cert.Reference2Ideal.Value.val4_main_v192 (launchContents m' c)).symm.trans (pool_eq m m' c (hA c))), hc.2.2.2⟩

end Cert.End2
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.End1
public import proofs.«01_k».proof.Proof.End2
public import Idealize.ShloMosaic.Adequacy
public import Idealize.ShloMosaic.Init

@[expose] public section

noncomputable section

namespace Cert.Proof

open Idealize.ShloMosaic Idealize.SL.Sem Cert.Kernel

/-- The prompt reference's frame: its run writes no argument, and it declares no semaphore. -/
theorem frame_prompt : Cert.quiescent_ReferenceIdeal (hReferenceIdeal := Cert.ReferenceIdeal.Gen.facts) := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The sample reference's frame: its run writes no argument, and it declares no semaphore. -/
theorem frame_sample : Cert.quiescent_Reference2Ideal (hReference2Ideal := Cert.Reference2Ideal.Gen.facts) := fun m ρ _ =>
  (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- The ten claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  fun m ρ _ => Cert.Kernel.Gen.frame m ρ, fun m ρ _ => Cert.KernelIdeal.Gen.frame m ρ, frame_prompt,
  fun m ρ _ => Cert.Kernel2.Gen.frame m ρ, fun m ρ _ => Cert.Kernel2Ideal.Gen.frame m ρ, frame_sample,
  trivial, Cert.End1.algebraic, trivial, Cert.End2.algebraic⟩

end Cert.Proof

end
